-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_to_an_expert_KernelIdeal [hPre_routed_to_an_expert_KernelIdeal : Cert.Pre_routed_to_an_expert_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_to_an_expert_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_to_an_expert_ReferenceIdeal [hPre_routed_to_an_expert_ReferenceIdeal : Cert.Pre_routed_to_an_expert_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_to_an_expert_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routed_to_an_expert_KernelIdeal [hKernelIdeal : Cert.KernelIdeal.Facts] [hPre_routed_to_an_expert_KernelIdeal : Cert.Pre_routed_to_an_expert_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_to_an_expert_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed_to_an_expert_ReferenceIdeal [hReferenceIdeal : Cert.ReferenceIdeal.Facts] [hPre_routed_to_an_expert_ReferenceIdeal : Cert.Pre_routed_to_an_expert_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_to_an_expert_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routed_to_an_expert_KernelIdeal [hKernelIdeal : Cert.KernelIdeal.Facts] [hReferenceIdeal : Cert.ReferenceIdeal.Facts] [hPre_routed_to_an_expert_KernelIdeal : Cert.Pre_routed_to_an_expert_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_to_an_expert_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routed_to_an_expert_KernelIdeal : Cert.Pre_routed_to_an_expert_KernelIdeal.Facts) (hPre_routed_to_an_expert_ReferenceIdeal : Cert.Pre_routed_to_an_expert_ReferenceIdeal.Facts),
    quiescent_Kernel (hKernel := hKernel)
    ∧ quiescent_KernelIdeal (hKernelIdeal := hKernelIdeal)
    ∧ quiescent_KernelIdeal_pre_routed_to_an_expert_KernelIdeal (hKernelIdeal := hKernelIdeal) (hPre_routed_to_an_expert_KernelIdeal := hPre_routed_to_an_expert_KernelIdeal)
    ∧ quiescent_ReferenceIdeal (hReferenceIdeal := hReferenceIdeal)
    ∧ quiescent_ReferenceIdeal_pre_routed_to_an_expert_ReferenceIdeal (hReferenceIdeal := hReferenceIdeal) (hPre_routed_to_an_expert_ReferenceIdeal := hPre_routed_to_an_expert_ReferenceIdeal)
    ∧ preserves_Kernel_KernelIdeal
    ∧ algebraic_KernelIdeal_ReferenceIdeal_pre_routed_to_an_expert_KernelIdeal (hKernelIdeal := hKernelIdeal) (hReferenceIdeal := hReferenceIdeal) (hPre_routed_to_an_expert_KernelIdeal := hPre_routed_to_an_expert_KernelIdeal)
-- ==== Pre_routed_to_an_expert_KernelIdeal.lean ====
abbrev S2048x512 : Shape := ⟨2, ![2048, 512]⟩
abbrev S512x64 : Shape := ⟨2, ![512, 64]⟩
abbrev S2048x1 : Shape := ⟨2, ![2048, 1]⟩
abbrev S4x512x1024 : Shape := ⟨3, ![4, 512, 1024]⟩
abbrev S512x1024 : Shape := ⟨2, ![512, 1024]⟩
abbrev S2048x64 : Shape := ⟨2, ![2048, 64]⟩
abbrev S_ : Shape := ⟨0, ![]⟩
abbrev S2048 : Shape := ⟨1, ![2048]⟩

class Facts : Prop where
  bitsLt_bf16_f32 : FTy.bits .bf16 < FTy.bits .f32
  reducesTo_S2048x64_S2048_d1 : S2048x64.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  dot_S2048x512_S512x64_S2048x64_1_0_0_1_n_n_wf : DotDims.WF S2048x512 S512x64 S2048x64 [1] [0] [0] [1] [] []

variable [Facts]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def fn {F : FTy → Type} [FloatOps F] (main_arg0 : FVec F S2048x512 .bf16) (main_arg1 : FVec F S512x64 .bf16) (main_arg2 : IVec S2048x1 32) (main_arg3 : FVec F S4x512x1024 .bf16) (main_arg4 : FVec F S512x1024 .bf16) : IVec S2048x1 1 :=
  let main_v0 : FVec F S2048x512 .f32 := (extf .f32 · bitsLt_bf16_f32) main_arg0
  let main_v1 : FVec F S512x64 .f32 := (extf .f32 · bitsLt_bf16_f32) main_arg1
  let main_v2 : FVec F S2048x64 .f32 := (fun l r => Host.dotGeneral dot_S2048x512_S512x64_S2048x64_1_0_0_1_n_n none l r) main_v0 main_v1
  let main_cst : FVec F S_ .f32 := constant S_ .f32 0xFF800000#32
  let main_v3 : FVec F S2048 .f32 := (fun x v => Host.reduce FloatOps.maximumf x v reducesTo_S2048x64_S2048_d1 h_S_) main_v2 main_cst
  let main_v4 : FVec F S2048x1 .f32 := broadcastInDim S2048x1 ![0] bcast_S2048_S2048x1_0 main_v3
  let main_c : IVec S_ 32 := constantI S_ 32 0#32
  let main_v5 : IVec S2048x1 32 := broadcastInDim S2048x1 ![] bcast_S_S2048x1 main_c
  let main_v6 : IVec S2048x1 1 := cmpi .sge main_arg2 main_v5
  let main_c_0 : IVec S_ 32 := constantI S_ 32 64#32
  let main_v7 : IVec S2048x1 32 := broadcastInDim S2048x1 ![] bcast_S_S2048x1 main_c_0
  let main_v8 : IVec S2048x1 1 := cmpi .slt main_arg2 main_v7
  let main_v9 : IVec S2048x1 1 := andi main_v6 main_v8
  let main_v10 : FVec F S2048x1 .f32 := Host.absf main_v4
  let main_cst_1 : FVec F S_ .f32 := constant S_ .f32 0x7F800000#32
  let main_v11 : FVec F S2048x1 .f32 := broadcastInDim S2048x1 ![] bcast_S_S2048x1 main_cst_1
  let main_v12 : IVec S2048x1 1 := cmpf .olt main_v10 main_v11
  let main_v13 : IVec S2048x1 1 := andi main_v9 main_v12
  main_v13
-- ==== Pre_routed_to_an_expert_ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S512x1024 : Shape := ⟨2, ![512, 1024]⟩
abbrev S2048x64 : Shape := ⟨2, ![2048, 64]⟩
abbrev S_ : Shape := ⟨0, ![]⟩
abbrev S2048 : Shape := ⟨1, ![2048]⟩

class Facts : Prop where
  bitsLt_bf16_f32 : FTy.bits .bf16 < FTy.bits .f32
  reducesTo_S2048x64_S2048_d1 : S2048x64.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  dot_S2048x512_S512x64_S2048x64_1_0_0_1_n_n_wf : DotDims.WF S2048x512 S512x64 S2048x64 [1] [0] [0] [1] [] []

variable [Facts]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def fn {F : FTy → Type} [FloatOps F] (main_arg0 : FVec F S2048x512 .bf16) (main_arg1 : FVec F S512x64 .bf16) (main_arg2 : IVec S2048x1 32) (main_arg3 : FVec F S64x512x1024 .bf16) (main_arg4 : FVec F S512x1024 .bf16) : IVec S2048x1 1 :=
  let main_v0 : FVec F S2048x512 .f32 := (extf .f32 · bitsLt_bf16_f32) main_arg0
  let main_v1 : FVec F S512x64 .f32 := (extf .f32 · bitsLt_bf16_f32) main_arg1
  let main_v2 : FVec F S2048x64 .f32 := (fun l r => Host.dotGeneral dot_S2048x512_S512x64_S2048x64_1_0_0_1_n_n none l r) main_v0 main_v1
  let main_cst : FVec F S_ .f32 := constant S_ .f32 0xFF800000#32
  let main_v3 : FVec F S2048 .f32 := (fun x v => Host.reduce FloatOps.maximumf x v reducesTo_S2048x64_S2048_d1 h_S_) main_v2 main_cst
  let main_v4 : FVec F S2048x1 .f32 := broadcastInDim S2048x1 ![0] bcast_S2048_S2048x1_0 main_v3
  let main_c : IVec S_ 32 := constantI S_ 32 0#32
  let main_v5 : IVec S2048x1 32 := broadcastInDim S2048x1 ![] bcast_S_S2048x1 main_c
  let main_v6 : IVec S2048x1 1 := cmpi .sge main_arg2 main_v5
  let main_c_0 : IVec S_ 32 := constantI S_ 32 64#32
  let main_v7 : IVec S2048x1 32 := broadcastInDim S2048x1 ![] bcast_S_S2048x1 main_c_0
  let main_v8 : IVec S2048x1 1 := cmpi .slt main_arg2 main_v7
  let main_v9 : IVec S2048x1 1 := andi main_v6 main_v8
  let main_v10 : FVec F S2048x1 .f32 := Host.absf main_v4
  let main_cst_1 : FVec F S_ .f32 := constant S_ .f32 0x7F800000#32
  let main_v11 : FVec F S2048x1 .f32 := broadcastInDim S2048x1 ![] bcast_S_S2048x1 main_cst_1
  let main_v12 : IVec S2048x1 1 := cmpf .olt main_v10 main_v11
  let main_v13 : IVec S2048x1 1 := andi main_v9 main_v12
  main_v13
-- ==== Kernel.lean ====
abbrev S2048x512 : Shape := ⟨2, ![2048, 512]⟩
abbrev S512x64 : Shape := ⟨2, ![512, 64]⟩
abbrev S2048x1 : Shape := ⟨2, ![2048, 1]⟩
abbrev S4x512x1024 : Shape := ⟨3, ![4, 512, 1024]⟩
abbrev S512x1024 : Shape := ⟨2, ![512, 1024]⟩
abbrev S2048x1024 : Shape := ⟨2, ![2048, 1024]⟩
abbrev S2x64x1024 : Shape := ⟨3, ![2, 64, 1024]⟩
abbrev S3x64x1024 : Shape := ⟨3, ![3, 64, 1024]⟩
abbrev S2 : Shape := ⟨1, ![2]⟩
abbrev S3 : Shape := ⟨1, ![3]⟩
abbrev S_ : Shape := ⟨0, ![]⟩
abbrev S2048x64 : Shape := ⟨2, ![2048, 64]⟩
abbrev S2048 : Shape := ⟨1, ![2048]⟩
abbrev S1x512x1024 : Shape := ⟨3, ![1, 512, 1024]⟩
abbrev S64x1024 : Shape := ⟨2, ![64, 1024]⟩
abbrev S1x64x1024 : Shape := ⟨3, ![1, 64, 1024]⟩
abbrev S1 : Shape := ⟨1, ![1]⟩

abbrev nBuf : Space → Nat
  | .hbm => 6
  | .vmem => 10
  | .smem => 0
  | _ => 0

abbrev bufTy : (tb : Table) → Fin (tcTables nBuf tb) → BufTy
  | .hbm, ⟨0, _⟩ => ⟨S2048x512, .bf16⟩
  | .hbm, ⟨1, _⟩ => ⟨S512x64, .bf16⟩
  | .hbm, ⟨2, _⟩ => ⟨S2048x1, .i32⟩
  | .hbm, ⟨3, _⟩ => ⟨S4x512x1024, .bf16⟩
  | .hbm, ⟨4, _⟩ => ⟨S512x1024, .bf16⟩
  | .hbm, ⟨5, _⟩ => ⟨S2048x1024, .f32⟩
  | .local _ .vmem, ⟨0, _⟩ => ⟨S2048x512, .bf16⟩
  | .local _ .vmem, ⟨1, _⟩ => ⟨S512x64, .bf16⟩
  | .local _ .vmem, ⟨2, _⟩ => ⟨S2048x1, .i32⟩
  | .local _ .vmem, ⟨3, _⟩ => ⟨S4x512x1024, .bf16⟩
  | .local _ .vmem, ⟨4, _⟩ => ⟨S512x1024, .bf16⟩
  | .local _ .vmem, ⟨5, _⟩ => ⟨S2048x1024, .f32⟩
  | .local _ .vmem, ⟨6, _⟩ => ⟨S2x64x1024, .bf16⟩
  | .local _ .vmem, ⟨7, _⟩ => ⟨S2x64x1024, .bf16⟩
  | .local _ .vmem, ⟨8, _⟩ => ⟨S3x64x1024, .bf16⟩
  | .local _ .vmem, ⟨9, _⟩ => ⟨S3x64x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_45 : BitVec 32) : Fin 2 → Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v94 : BitVec 32 := Scalar.addi v2 c32_i32
  let v95 : BitVec 32 := Scalar.subi v94 c0_i32_45
  let c16_i32_46 : BitVec 32 := 16#32
  let v96 : BitVec 32 := Scalar.remsi v95 c16_i32_46
  let c64_i32 : BitVec 32 := 64#32
  let v97 : BitVec 32 := Scalar.muli v96 c64_i32
  let v98 : BitVec 32 := Scalar.addi c0_i32_47 v97
  let v99 : Index := Scalar.indexCast v98
  let c0_48 : Index := 0#32
  ![v99.toNat, 0]
def k0_dev3 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_56 : BitVec 32 := 1#32
  let v106 : BitVec 32 := Scalar.muli v7 c1_i32_56
  let v107 : BitVec 32 := Scalar.addi c0_i32_57 v106
  v107.toNat
def k0_off2 (d0 : Dev nD) (c0_i32_62 : BitVec 32) : Fin 2 → Nat :=
  let c1024_i32 : BitVec 32 := 1024#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v116 : BitVec 32 := Scalar.addi v2 c0_i32_62
  let c16_i32_63 : BitVec 32 := 16#32
  let v117 : BitVec 32 := Scalar.remsi v116 c16_i32_63
  let c64_i32_64 : BitVec 32 := 64#32
  let v118 : BitVec 32 := Scalar.muli v117 c64_i32_64
  let v119 : BitVec 32 := Scalar.addi c1024_i32 v118
  let v120 : Index := Scalar.indexCast v119
  let c0_65 : Index := 0#32
  ![v120.toNat, 0]
def k0_dev4 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_73 : BitVec 32 := 1#32
  let v127 : BitVec 32 := Scalar.muli v5 c1_i32_73
  let v128 : BitVec 32 := Scalar.addi c0_i32_74 v127
  v128.toNat
def k0_dev5 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_133 : BitVec 32 := 1#32
  let v181 : BitVec 32 := Scalar.muli v7 c1_i32_133
  let v182 : BitVec 32 := Scalar.addi c0_i32_134 v181
  v182.toNat
def k0_dev6 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_154 : BitVec 32 := 1#32
  let v206 : BitVec 32 := Scalar.muli v5 c1_i32_154
  let v207 : BitVec 32 := Scalar.addi c0_i32_155 v206
  v207.toNat
def k0_dev7 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_214 : BitVec 32 := 1#32
  let v260 : BitVec 32 := Scalar.muli v7 c1_i32_214
  let v261 : BitVec 32 := Scalar.addi c0_i32_215 v260
  v261.toNat
def k0_dev8 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_235 : BitVec 32 := 1#32
  let v285 : BitVec 32 := Scalar.muli v5 c1_i32_235
  let v286 : BitVec 32 := Scalar.addi c0_i32_236 v285
  v286.toNat
def k0_dev9 (d0 : Dev nD) : Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_295 : BitVec 32 := 1#32
  let v339 : BitVec 32 := Scalar.muli v7 c1_i32_295
  let v340 : BitVec 32 := Scalar.addi c0_i32_296 v339
  v340.toNat
def k0_dev10 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_316 : BitVec 32 := 1#32
  let v364 : BitVec 32 := Scalar.muli v5 c1_i32_316
  let v365 : BitVec 32 := Scalar.addi c0_i32_317 v364
  v365.toNat
def k0_dev11 (d0 : Dev nD) : Nat :=
  let c0_i32_377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_376 : BitVec 32 := 1#32
  let v418 : BitVec 32 := Scalar.muli v7 c1_i32_376
  let v419 : BitVec 32 := Scalar.addi c0_i32_377 v418
  v419.toNat
def k0_dev12 (d0 : Dev nD) : Nat :=
  let c0_i32_398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_397 : BitVec 32 := 1#32
  let v443 : BitVec 32 := Scalar.muli v5 c1_i32_397
  let v444 : BitVec 32 := Scalar.addi c0_i32_398 v443
  v444.toNat
def k0_dev13 (d0 : Dev nD) : Nat :=
  let c0_i32_457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_456 : BitVec 32 := 1#32
  let v497 : BitVec 32 := Scalar.muli v7 c1_i32_456
  let v498 : BitVec 32 := Scalar.addi c0_i32_457 v497
  v498.toNat
def k0_dev14 (d0 : Dev nD) : Nat :=
  let c0_i32_478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_477 : BitVec 32 := 1#32
  let v522 : BitVec 32 := Scalar.muli v5 c1_i32_477
  let v523 : BitVec 32 := Scalar.addi c0_i32_478 v522
  v523.toNat
def k0_dev15 (d0 : Dev nD) : Nat :=
  let c0_i32_537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_536 : BitVec 32 := 1#32
  let v576 : BitVec 32 := Scalar.muli v7 c1_i32_536
  let v577 : BitVec 32 := Scalar.addi c0_i32_537 v576
  v577.toNat
def k0_dev16 (d0 : Dev nD) : Nat :=
  let c0_i32_558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_557 : BitVec 32 := 1#32
  let v601 : BitVec 32 := Scalar.muli v5 c1_i32_557
  let v602 : BitVec 32 := Scalar.addi c0_i32_558 v601
  v602.toNat
def k0_dev17 (d0 : Dev nD) : Nat :=
  let c0_i32_617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_616 : BitVec 32 := 1#32
  let v655 : BitVec 32 := Scalar.muli v7 c1_i32_616
  let v656 : BitVec 32 := Scalar.addi c0_i32_617 v655
  v656.toNat
def k0_dev18 (d0 : Dev nD) : Nat :=
  let c0_i32_638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_637 : BitVec 32 := 1#32
  let v680 : BitVec 32 := Scalar.muli v5 c1_i32_637
  let v681 : BitVec 32 := Scalar.addi c0_i32_638 v680
  v681.toNat
def k0_dev19 (d0 : Dev nD) : Nat :=
  let c0_i32_697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_696 : BitVec 32 := 1#32
  let v734 : BitVec 32 := Scalar.muli v7 c1_i32_696
  let v735 : BitVec 32 := Scalar.addi c0_i32_697 v734
  v735.toNat
def k0_dev20 (d0 : Dev nD) : Nat :=
  let c0_i32_718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_717 : BitVec 32 := 1#32
  let v759 : BitVec 32 := Scalar.muli v5 c1_i32_717
  let v760 : BitVec 32 := Scalar.addi c0_i32_718 v759
  v760.toNat
def k0_dev21 (d0 : Dev nD) : Nat :=
  let c0_i32_777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_776 : BitVec 32 := 1#32
  let v813 : BitVec 32 := Scalar.muli v7 c1_i32_776
  let v814 : BitVec 32 := Scalar.addi c0_i32_777 v813
  v814.toNat
def k0_dev22 (d0 : Dev nD) : Nat :=
  let c0_i32_798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_797 : BitVec 32 := 1#32
  let v838 : BitVec 32 := Scalar.muli v5 c1_i32_797
  let v839 : BitVec 32 := Scalar.addi c0_i32_798 v838
  v839.toNat
def k0_dev23 (d0 : Dev nD) : Nat :=
  let c0_i32_857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_856 : BitVec 32 := 1#32
  let v892 : BitVec 32 := Scalar.muli v7 c1_i32_856
  let v893 : BitVec 32 := Scalar.addi c0_i32_857 v892
  v893.toNat
def k0_dev24 (d0 : Dev nD) : Nat :=
  let c0_i32_878 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_877 : BitVec 32 := 1#32
  let v917 : BitVec 32 := Scalar.muli v5 c1_i32_877
  let v918 : BitVec 32 := Scalar.addi c0_i32_878 v917
  v918.toNat
def k0_dev25 (d0 : Dev nD) : Nat :=
  let c0_i32_937 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_936 : BitVec 32 := 1#32
  let v971 : BitVec 32 := Scalar.muli v7 c1_i32_936
  let v972 : BitVec 32 := Scalar.addi c0_i32_937 v971
  v972.toNat
def k0_dev26 (d0 : Dev nD) : Nat :=
  let c0_i32_958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_957 : BitVec 32 := 1#32
  let v996 : BitVec 32 := Scalar.muli v5 c1_i32_957
  let v997 : BitVec 32 := Scalar.addi c0_i32_958 v996
  v997.toNat
def k0_dev27 (d0 : Dev nD) : Nat :=
  let c0_i32_1017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1016 : BitVec 32 := 1#32
  let v1050 : BitVec 32 := Scalar.muli v7 c1_i32_1016
  let v1051 : BitVec 32 := Scalar.addi c0_i32_1017 v1050
  v1051.toNat
def k0_dev28 (d0 : Dev nD) : Nat :=
  let c0_i32_1038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1037 : BitVec 32 := 1#32
  let v1075 : BitVec 32 := Scalar.muli v5 c1_i32_1037
  let v1076 : BitVec 32 := Scalar.addi c0_i32_1038 v1075
  v1076.toNat
def k0_dev29 (d0 : Dev nD) : Nat :=
  let c0_i32_1097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1096 : BitVec 32 := 1#32
  let v1129 : BitVec 32 := Scalar.muli v7 c1_i32_1096
  let v1130 : BitVec 32 := Scalar.addi c0_i32_1097 v1129
  v1130.toNat
def k0_dev30 (d0 : Dev nD) : Nat :=
  let c0_i32_1118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1117 : BitVec 32 := 1#32
  let v1154 : BitVec 32 := Scalar.muli v5 c1_i32_1117
  let v1155 : BitVec 32 := Scalar.addi c0_i32_1118 v1154
  v1155.toNat
def k0_dev31 (d0 : Dev nD) : Nat :=
  let c0_i32_1177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1176 : BitVec 32 := 1#32
  let v1208 : BitVec 32 := Scalar.muli v7 c1_i32_1176
  let v1209 : BitVec 32 := Scalar.addi c0_i32_1177 v1208
  v1209.toNat
def k0_dev32 (d0 : Dev nD) : Nat :=
  let c0_i32_1198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1197 : BitVec 32 := 1#32
  let v1233 : BitVec 32 := Scalar.muli v5 c1_i32_1197
  let v1234 : BitVec 32 := Scalar.addi c0_i32_1198 v1233
  v1234.toNat
def k0_dev33 (d0 : Dev nD) : Nat :=
  let c0_i32_1257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1256 : BitVec 32 := 1#32
  let v1287 : BitVec 32 := Scalar.muli v7 c1_i32_1256
  let v1288 : BitVec 32 := Scalar.addi c0_i32_1257 v1287
  v1288.toNat
def k0_dev34 (d0 : Dev nD) : Nat :=
  let c0_i32_1278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1277 : BitVec 32 := 1#32
  let v1312 : BitVec 32 := Scalar.muli v5 c1_i32_1277
  let v1313 : BitVec 32 := Scalar.addi c0_i32_1278 v1312
  v1313.toNat
def k0_dev35 (d0 : Dev nD) : Nat :=
  let c0_i32_1345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1344 : BitVec 32 := 1#32
  let v1377 : BitVec 32 := Scalar.muli v7 c1_i32_1344
  let v1378 : BitVec 32 := Scalar.addi c0_i32_1345 v1377
  v1378.toNat
def k0_dev36 (d0 : Dev nD) : Nat :=
  let c0_i32_1355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1354 : BitVec 32 := 1#32
  let v1387 : BitVec 32 := Scalar.muli v5 c1_i32_1354
  let v1388 : BitVec 32 := Scalar.addi c0_i32_1355 v1387
  v1388.toNat
def k0_dev37 (d0 : Dev nD) : Nat :=
  let c0_i32_1420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1419 : BitVec 32 := 1#32
  let v1444 : BitVec 32 := Scalar.muli v7 c1_i32_1419
  let v1445 : BitVec 32 := Scalar.addi c0_i32_1420 v1444
  v1445.toNat
def k0_dev38 (d0 : Dev nD) : Nat :=
  let c0_i32_1430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1429 : BitVec 32 := 1#32
  let v1454 : BitVec 32 := Scalar.muli v5 c1_i32_1429
  let v1455 : BitVec 32 := Scalar.addi c0_i32_1430 v1454
  v1455.toNat
def k0_dev39 (d0 : Dev nD) : Nat :=
  let c0_i32_1494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1493 : BitVec 32 := 1#32
  let v1511 : BitVec 32 := Scalar.muli v7 c1_i32_1493
  let v1512 : BitVec 32 := Scalar.addi c0_i32_1494 v1511
  v1512.toNat
def k0_dev40 (d0 : Dev nD) : Nat :=
  let c0_i32_1504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1503 : BitVec 32 := 1#32
  let v1521 : BitVec 32 := Scalar.muli v5 c1_i32_1503
  let v1522 : BitVec 32 := Scalar.addi c0_i32_1504 v1521
  v1522.toNat
def k0_dev41 (d0 : Dev nD) : Nat :=
  let c0_i32_1568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1567 : BitVec 32 := 1#32
  let v1578 : BitVec 32 := Scalar.muli v7 c1_i32_1567
  let v1579 : BitVec 32 := Scalar.addi c0_i32_1568 v1578
  v1579.toNat
def k0_dev42 (d0 : Dev nD) : Nat :=
  let c0_i32_1578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1577 : BitVec 32 := 1#32
  let v1588 : BitVec 32 := Scalar.muli v5 c1_i32_1577
  let v1589 : BitVec 32 := Scalar.addi c0_i32_1578 v1588
  v1589.toNat
def k0_dev43 (d0 : Dev nD) : Nat :=
  let c0_i32_1642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1641 : BitVec 32 := 1#32
  let v1645 : BitVec 32 := Scalar.muli v7 c1_i32_1641
  let v1646 : BitVec 32 := Scalar.addi c0_i32_1642 v1645
  v1646.toNat
def k0_dev44 (d0 : Dev nD) : Nat :=
  let c0_i32_1652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1651 : BitVec 32 := 1#32
  let v1655 : BitVec 32 := Scalar.muli v5 c1_i32_1651
  let v1656 : BitVec 32 := Scalar.addi c0_i32_1652 v1655
  v1656.toNat
def k0_dev45 (d0 : Dev nD) : Nat :=
  let c0_i32_1716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1715 : BitVec 32 := 1#32
  let v1712 : BitVec 32 := Scalar.muli v7 c1_i32_1715
  let v1713 : BitVec 32 := Scalar.addi c0_i32_1716 v1712
  v1713.toNat
def k0_dev46 (d0 : Dev nD) : Nat :=
  let c0_i32_1726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1725 : BitVec 32 := 1#32
  let v1722 : BitVec 32 := Scalar.muli v5 c1_i32_1725
  let v1723 : BitVec 32 := Scalar.addi c0_i32_1726 v1722
  v1723.toNat
def k0_dev47 (d0 : Dev nD) : Nat :=
  let c0_i32_1790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1789 : BitVec 32 := 1#32
  let v1779 : BitVec 32 := Scalar.muli v7 c1_i32_1789
  let v1780 : BitVec 32 := Scalar.addi c0_i32_1790 v1779
  v1780.toNat
def k0_dev48 (d0 : Dev nD) : Nat :=
  let c0_i32_1800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1799 : BitVec 32 := 1#32
  let v1789 : BitVec 32 := Scalar.muli v5 c1_i32_1799
  let v1790 : BitVec 32 := Scalar.addi c0_i32_1800 v1789
  v1790.toNat
def k0_dev49 (d0 : Dev nD) : Nat :=
  let c0_i32_1864 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1863 : BitVec 32 := 1#32
  let v1846 : BitVec 32 := Scalar.muli v7 c1_i32_1863
  let v1847 : BitVec 32 := Scalar.addi c0_i32_1864 v1846
  v1847.toNat
def k0_dev50 (d0 : Dev nD) : Nat :=
  let c0_i32_1874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1873 : BitVec 32 := 1#32
  let v1856 : BitVec 32 := Scalar.muli v5 c1_i32_1873
  let v1857 : BitVec 32 := Scalar.addi c0_i32_1874 v1856
  v1857.toNat
def k0_dev51 (d0 : Dev nD) : Nat :=
  let c0_i32_1938 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1937 : BitVec 32 := 1#32
  let v1913 : BitVec 32 := Scalar.muli v7 c1_i32_1937
  let v1914 : BitVec 32 := Scalar.addi c0_i32_1938 v1913
  v1914.toNat
def k0_dev52 (d0 : Dev nD) : Nat :=
  let c0_i32_1948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1947 : BitVec 32 := 1#32
  let v1923 : BitVec 32 := Scalar.muli v5 c1_i32_1947
  let v1924 : BitVec 32 := Scalar.addi c0_i32_1948 v1923
  v1924.toNat
def k0_dev53 (d0 : Dev nD) : Nat :=
  let c0_i32_2012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2011 : BitVec 32 := 1#32
  let v1980 : BitVec 32 := Scalar.muli v7 c1_i32_2011
  let v1981 : BitVec 32 := Scalar.addi c0_i32_2012 v1980
  v1981.toNat
def k0_dev54 (d0 : Dev nD) : Nat :=
  let c0_i32_2022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2021 : BitVec 32 := 1#32
  let v1990 : BitVec 32 := Scalar.muli v5 c1_i32_2021
  let v1991 : BitVec 32 := Scalar.addi c0_i32_2022 v1990
  v1991.toNat
def k0_dev55 (d0 : Dev nD) : Nat :=
  let c0_i32_2086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2085 : BitVec 32 := 1#32
  let v2047 : BitVec 32 := Scalar.muli v7 c1_i32_2085
  let v2048 : BitVec 32 := Scalar.addi c0_i32_2086 v2047
  v2048.toNat
def k0_dev56 (d0 : Dev nD) : Nat :=
  let c0_i32_2096 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2095 : BitVec 32 := 1#32
  let v2057 : BitVec 32 := Scalar.muli v5 c1_i32_2095
  let v2058 : BitVec 32 := Scalar.addi c0_i32_2096 v2057
  v2058.toNat
def k0_dev57 (d0 : Dev nD) : Nat :=
  let c0_i32_2160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2159 : BitVec 32 := 1#32
  let v2114 : BitVec 32 := Scalar.muli v7 c1_i32_2159
  let v2115 : BitVec 32 := Scalar.addi c0_i32_2160 v2114
  v2115.toNat
def k0_dev58 (d0 : Dev nD) : Nat :=
  let c0_i32_2170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2169 : BitVec 32 := 1#32
  let v2124 : BitVec 32 := Scalar.muli v5 c1_i32_2169
  let v2125 : BitVec 32 := Scalar.addi c0_i32_2170 v2124
  v2125.toNat
def k0_dev59 (d0 : Dev nD) : Nat :=
  let c0_i32_2234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2233 : BitVec 32 := 1#32
  let v2181 : BitVec 32 := Scalar.muli v7 c1_i32_2233
  let v2182 : BitVec 32 := Scalar.addi c0_i32_2234 v2181
  v2182.toNat
def k0_dev60 (d0 : Dev nD) : Nat :=
  let c0_i32_2244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2243 : BitVec 32 := 1#32
  let v2191 : BitVec 32 := Scalar.muli v5 c1_i32_2243
  let v2192 : BitVec 32 := Scalar.addi c0_i32_2244 v2191
  v2192.toNat
def k0_dev61 (d0 : Dev nD) : Nat :=
  let c0_i32_2308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2307 : BitVec 32 := 1#32
  let v2248 : BitVec 32 := Scalar.muli v7 c1_i32_2307
  let v2249 : BitVec 32 := Scalar.addi c0_i32_2308 v2248
  v2249.toNat
def k0_dev62 (d0 : Dev nD) : Nat :=
  let c0_i32_2318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2317 : BitVec 32 := 1#32
  let v2258 : BitVec 32 := Scalar.muli v5 c1_i32_2317
  let v2259 : BitVec 32 := Scalar.addi c0_i32_2318 v2258
  v2259.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S512x1024 : Shape := ⟨2, ![512, 1024]⟩
abbrev S2048x64 : Shape := ⟨2, ![2048, 64]⟩
abbrev S_ : Shape := ⟨0, ![]⟩
abbrev S2048 : Shape := ⟨1, ![2048]⟩
abbrev S2048x1024 : Shape := ⟨2, ![2048, 1024]⟩
abbrev S2048x1x1 : Shape := ⟨3, ![2048, 1, 1]⟩
abbrev S2048x512x1024 : Shape := ⟨3, ![2048, 512, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x64, .bf16⟩
  | .hbm, ⟨2, _⟩ => ⟨S2048x1, .i32⟩
  | .hbm, ⟨3, _⟩ => ⟨S64x512x1024, .bf16⟩
  | .hbm, ⟨4, _⟩ => ⟨S512x1024, .bf16⟩
  | .hbm, ⟨5, _⟩ => ⟨S2048x512, .f32⟩
  | .hbm, ⟨6, _⟩ => ⟨S512x64, .f32⟩
  | .hbm, ⟨7, _⟩ => ⟨S2048x64, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S2048x64, .f32⟩
  | .hbm, ⟨12, _⟩ => ⟨S2048x64, .f32⟩
  | .hbm, ⟨13, _⟩ => ⟨S2048x64, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x64, .f32⟩
  | .hbm, ⟨18, _⟩ => ⟨S2048x64, .f32⟩
  | .hbm, ⟨19, _⟩ => ⟨S512x1024, .f32⟩
  | .hbm, ⟨20, _⟩ => ⟨S2048x1024, .f32⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S_, .i32⟩
  | .hbm, ⟨25, _⟩ => ⟨S2048x1, .i32⟩
  | .hbm, ⟨26, _⟩ => ⟨S2048x1, .i32⟩
  | .hbm, ⟨27, _⟩ => ⟨S2048x1, .i32⟩
  | .hbm, ⟨28, _⟩ => ⟨S2048x1x1, .i32⟩
  | .hbm, ⟨29, _⟩ => ⟨S2048x1, .f32⟩
  | .hbm, ⟨30, _⟩ => ⟨S64x512x1024, .f32⟩
  | .hbm, ⟨31, _⟩ => ⟨S2048, .i32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S2048, .i32⟩
  | .hbm, ⟨39, _⟩ => ⟨S2048x1, .i32⟩
  | .hbm, ⟨40, _⟩ => ⟨S2048x512x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Proof.Program.lean ====
/- The kernel body as a program over the hop number: a prologue, thirty hops and an epilogue, each hop naming its slots
    by the hop number. `body_eq` says the printed body is this program. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions

@[expose] public section

noncomputable section

namespace Cert.KernelIdeal.Hand

open Idealize.ShloMosaic Idealize.SL.Sem Cert.KernelIdeal Cert.KernelIdeal.Gen

variable {F : FTy → Type} [FloatOps F]

/-! ## The slots -/

theorem sInb (s : Fin 2) : ∀ a, (![s.val, 0, 0] : Fin 3 → Nat) a + S1x64x1024.size a ≤ S2x64x1024.size a := by
  fin_cases s
  · exact inb_S2x64x1024_S1x64x1024_0_0_0
  · exact inb_S2x64x1024_S1x64x1024_1_0_0

theorem rInb (s : Fin 3) : ∀ a, (![s.val, 0, 0] : Fin 3 → Nat) a + S1x64x1024.size a ≤ S3x64x1024.size a := by
  fin_cases s
  · exact inb_S3x64x1024_S1x64x1024_0_0_0
  · exact inb_S3x64x1024_S1x64x1024_1_0_0
  · exact inb_S3x64x1024_S1x64x1024_2_0_0

theorem sSemInb (s : Fin 2) : ∀ a, (![s.val] : Fin 1 → Nat) a + S1.size a ≤ S2.size a := by
  fin_cases s
  · exact inb_S2_S1_0
  · exact inb_S2_S1_1

theorem rSemInb (s : Fin 3) : ∀ a, (![s.val] : Fin 1 → Nat) a + S1.size a ≤ S3.size a := by
  fin_cases s
  · exact inb_S3_S1_0
  · exact inb_S3_S1_1
  · exact inb_S3_S1_2

/-- Slot `s` of a send buffer, as a rectangle of the whole buffer. -/
abbrev sRect (s : Fin 2) : Rect S2x64x1024 := Rect.unit (s := S2x64x1024) ![s.val, 0, 0] S1x64x1024.size (sInb s)
/-- Slot `s` of a receive buffer, as a rectangle of the whole buffer. -/
abbrev rRect (s : Fin 3) : Rect S3x64x1024 := Rect.unit (s := S3x64x1024) ![s.val, 0, 0] S1x64x1024.size (rInb s)

theorem sWords (s : Fin 2) : (sRect s).WholeWords (EltTy.packing .bf16) := by
  fin_cases s
  · exact wordsbf16_S2x64x1024_S1x64x1024_0_0_0
  · exact wordsbf16_S2x64x1024_S1x64x1024_1_0_0

theorem sPacked (s : Fin 2) : (sRect s).PackedRows (EltTy.packing .bf16) := by
  fin_cases s
  · exact packedbf16_S2x64x1024_S1x64x1024_0_0_0
  · exact packedbf16_S2x64x1024_S1x64x1024_1_0_0

theorem rWords (s : Fin 3) : (rRect s).WholeWords (EltTy.packing .bf16) := by
  fin_cases s
  · exact wordsbf16_S3x64x1024_S1x64x1024_0_0_0
  · exact wordsbf16_S3x64x1024_S1x64x1024_1_0_0
  · exact wordsbf16_S3x64x1024_S1x64x1024_2_0_0

/-- Slot `s` of the send buffer `M`, as the copies name it. -/
abbrev sSlot (M : Memref sig .tc .vmem S2x64x1024 .bf16) (s : Fin 2) : Memref sig .tc .vmem S64x1024 .bf16 :=
  (M.slice (sRect s) (fun _ => rfl)).squeeze S64x1024 squeezes_S1x64x1024_S64x1024
/-- Slot `s` of the receive buffer `M`, as the copies name it. -/
abbrev rSlot (M : Memref sig .tc .vmem S3x64x1024 .bf16) (s : Fin 3) : Memref sig .tc .vmem S64x1024 .bf16 :=
  (M.slice (rRect s) (fun _ => rfl)).squeeze S64x1024 squeezes_S1x64x1024_S64x1024
/-- Semaphore `s` of a send array. -/
abbrev sSem (M : DmaSems sig S2) (s : Fin 2) : DmaSem sig :=
  ((M.slice (Rect.unit (s := S2) ![s.val] S1.size (sSemInb s))).squeeze S_ squeezes_S1_S_).sem
/-- Semaphore `s` of a receive array. -/
abbrev rSem (M : DmaSems sig S3) (s : Fin 3) : DmaSem sig :=
  ((M.slice (Rect.unit (s := S3) ![s.val] S1.size (rSemInb s))).squeeze S_ squeezes_S1_S_).sem

/-- The send slot of hop `g`. -/
abbrev s2 (g : ℕ) : Fin 2 := ⟨g % 2, Nat.mod_lt _ (by decide)⟩
/-- The receive slot of hop `g`; hop `g` reads what hop `g - 1` received, slot `s3 (g + 2)`. -/
abbrev s3 (g : ℕ) : Fin 3 := ⟨g % 3, Nat.mod_lt _ (by decide)⟩
/-- A hop number as the offsets take it. -/
abbrev hop (g : ℕ) : Fin 31 := ⟨g % 31, Nat.mod_lt _ (by decide)⟩

/-! ## The two streams

A stream is named by a `Bool`: `true` runs to the right, `false` to the left. -/

abbrev P := Prog (TpuEff nD τ sig (Elt F) Λ₀ .tc)

abbrev xM : Memref sig .tc .vmem S2048x512 .bf16 := Memref.whole cc0_stg0_0
abbrev rtM : Memref sig .tc .vmem S512x64 .bf16 := Memref.whole cc0_stg1_0
abbrev ixM : Memref sig .tc .vmem S2048x1 .i32 := Memref.whole cc0_stg2_0
abbrev wM : Memref sig .tc .vmem S4x512x1024 .bf16 := Memref.whole cc0_stg3_0
abbrev shM : Memref sig .tc .vmem S512x1024 .bf16 := Memref.whole cc0_stg4_0
abbrev accM : Memref sig .tc .vmem S2048x1024 .f32 := Memref.whole cc0_stg5_0

abbrev sM (e : Bool) : Memref sig .tc .vmem S2x64x1024 .bf16 :=
  match e with | true => Memref.whole cc0_scratch0 | false => Memref.whole cc0_scratch1
/-- and the one its copies land in. -/
abbrev rM (e : Bool) : Memref sig .tc .vmem S3x64x1024 .bf16 :=
  match e with | true => Memref.whole cc0_scratch2 | false => Memref.whole cc0_scratch3
theorem sWhole (e : Bool) : (sM e).IsWhole := match e with | true => Memref.isWhole_whole _ | false => Memref.isWhole_whole _
theorem rWhole (e : Bool) : (rM e).IsWhole := match e with | true => Memref.isWhole_whole _ | false => Memref.isWhole_whole _
/-- A stream's send and receive semaphores. -/
abbrev ssA (e : Bool) : DmaSems sig S2 := match e with | true => cc0_scratch4 | false => cc0_scratch5
abbrev rsA (e : Bool) : DmaSems sig S3 := match e with | true => cc0_scratch6 | false => cc0_scratch7

/-- The neighbour a stream runs to, as the program computes it. -/
abbrev toDev (e : Bool) (d : Dev nD) : Dev nD := match e with | true => ⟨k0_dev3 d, k0_dev3_lt d⟩ | false => ⟨k0_dev4 d, k0_dev4_lt d⟩

/-- Where in the accumulator a stream's chunk of hop `g` begins. -/
abbrev off (e : Bool) (d : Dev nD) (g : ℕ) : Fin 2 → Nat :=
  match e with | true => k0_off1 d (BitVec.ofNat 32 (hop g).val) | false => k0_off2 d (BitVec.ofNat 32 (hop g).val)
theorem offInb (e : Bool) (d : Dev nD) (g : ℕ) : ∀ a, off e d g a + S64x1024.size a ≤ S2048x1024.size a :=
  match e with | true => k0_off1_inb d (hop g) | false => k0_off2_inb d (hop g)
/-- The accumulator's chunk a stream touches at hop `g`. -/
abbrev chunk (e : Bool) (d : Dev nD) (g : ℕ) : Rect S2048x1024 := Rect.unit (s := S2048x1024) (off e d g) S64x1024.size (offInb e d g)

/-- A stream's slots and semaphores by hop: where hop `g` sends from when it sends a sum, where it lands, what it reads. -/
abbrev src (e : Bool) (g : ℕ) : Memref sig .tc .vmem S64x1024 .bf16 := sSlot (sM e) (s2 g)
abbrev dst (e : Bool) (g : ℕ) : Memref sig .tc .vmem S64x1024 .bf16 := rSlot (rM e) (s3 g)
abbrev ss (e : Bool) (g : ℕ) : DmaSem sig := sSem (ssA e) (s2 g)
abbrev rs (e : Bool) (g : ℕ) : DmaSem sig := rSem (rsA e) (s3 g)

theorem srcExact (e : Bool) (g : ℕ) : (src e g).view.WordExact := ((sWhole e).wordExact_slice rfl _ (sWords _)).reshape _ _
theorem dstExact (e : Bool) (g : ℕ) : (dst e g).view.WordExact := ((rWhole e).wordExact_slice rfl _ (rWords _)).reshape _ _

/-! ## The steps, each followed by `k` -/

/-- The accumulator's chunk, read. -/
abbrev loadAcc (e : Bool) (d : Dev nD) (g : ℕ) (k : Vec F S64x1024 .f32 → P (F := F) PUnit) : P (F := F) PUnit :=
  .op (.load accM (chunk e d g).toLoadRect (View.loadsAt_vmem h_S64x1024)) k
/-- The accumulator's chunk, written. -/
abbrev storeAcc (e : Bool) (d : Dev nD) (g : ℕ) (v : Vec F S64x1024 .f32) (k : P (F := F) PUnit) : P (F := F) PUnit :=
  .op (.store accM (chunk e d g) v Finset.univ (View.stores_vmem_bits_univ h_S64x1024 rfl) (.inl rfl)) fun _ => k
/-- What the hop before received, read. -/
abbrev loadR (e : Bool) (g : ℕ) (k : Vec F S1x64x1024 .bf16 → P (F := F) PUnit) : P (F := F) PUnit :=
  .op (.load (rM e) (rRect (s3 (g + 2))).toLoadRect (View.loadsAt_vmem h_S1x64x1024)) k
/-- The send slot, read -/
abbrev loadS (e : Bool) (g : ℕ) (k : Vec F S1x64x1024 .bf16 → P (F := F) PUnit) : P (F := F) PUnit :=
  .op (.load (sM e) (sRect (s2 g)).toLoadRect (View.loadsAt_vmem h_S1x64x1024)) k
/-- and written. -/
abbrev storeS (e : Bool) (g : ℕ) (v : Vec F S1x64x1024 .bf16) (k : P (F := F) PUnit) : P (F := F) PUnit :=
  .op (.store (sM e) (sRect (s2 g)) v Finset.univ
    (View.stores_vmem h_S1x64x1024 ((sWhole e).storeExact_slice rfl _ (sPacked _)) (fun _ => rfl)) (.inl rfl)) fun _ => k
/-- A copy from `a` into hop `g`'s landing slot of the neighbour. -/
abbrev sendFrom (e : Bool) (d : Dev nD) (a : Memref sig .tc .vmem S64x1024 .bf16) (ha : a.view.WordExact) (g : ℕ)
    (k : P (F := F) PUnit) : P (F := F) PUnit :=
  .op (.enqueueDma a (.remote (Dev.tc (toDev e d)) (dst e g) (.dma (ss e g))) (.dma (rs e g)) ha (dstExact e g)
    ⟨⟨rfl, Or.inl rfl⟩, trivial⟩) fun _ => k

/-- Hop 0's send: the device's own chunk. -/
def sendOwn (e : Bool) (d : Dev nD) (k : P (F := F) PUnit) : P (F := F) PUnit :=
  loadAcc e d 0 fun v => loadS e 0 fun _ => storeS e 0 (k0_pay11 v) <| sendFrom e d (src e 0) (srcExact e 0) 0 k

/-- Hop `g`'s send in the reduction: what arrived, added to the device's own chunk. -/
def sendSum (e : Bool) (d : Dev nD) (g : ℕ) (k : P (F := F) PUnit) : P (F := F) PUnit :=
  loadAcc e d g fun v => loadR e g fun u => loadS e g fun _ => storeS e g (k0_pay13 v u) <|
    sendFrom e d (src e g) (srcExact e g) g k

/-- The last sum of the reduction, kept by the device. -/
def keepSum (e : Bool) (d : Dev nD) (k : P (F := F) PUnit) : P (F := F) PUnit :=
  loadAcc e d 15 fun v => loadR e 15 fun u => loadAcc e d 15 fun _ => storeAcc e d 15 (k0_pay55 v u) k

/-- What hop `g - 1` received, kept. -/
def keep (e : Bool) (d : Dev nD) (g : ℕ) (k : P (F := F) PUnit) : P (F := F) PUnit :=
  loadR e g fun u => loadAcc e d g fun _ => storeAcc e d g (k0_pay57 u) k

/-- The two waits of hop `g`, for the copy sent from `a` and the copy received. -/
def waits (e : Bool) (a : Memref sig .tc .vmem S64x1024 .bf16) (ha : a.view.WordExact) (g : ℕ) (k : P (F := F) PUnit) :
    P (F := F) PUnit :=
  .op (.waitDma2 (ss e g) (dst e g) a (dstExact e g) ha) fun _ =>
  .op (.waitDma2 (rs e g) a (dst e g) ha (dstExact e g)) fun _ => k

/-! ## The hops, each followed by `k` -/

def hop0 (d : Dev nD) (k : P (F := F) PUnit) : P (F := F) PUnit :=
  sendOwn true d <| sendOwn false d <|
  waits true (src true 0) (srcExact true 0) 0 <| waits false (src false 0) (srcExact false 0) 0 k

/-- Hop `g` of the reduction. -/
def hopAdd (d : Dev nD) (g : ℕ) (k : P (F := F) PUnit) : P (F := F) PUnit :=
  sendSum true d g <| sendSum false d g <|
  waits true (src true g) (srcExact true g) g <| waits false (src false g) (srcExact false g) g k

/-- Hop 15: the last of the reduction, whose sum the device keeps too. -/
def hop15 (d : Dev nD) (k : P (F := F) PUnit) : P (F := F) PUnit :=
  sendSum true d 15 <| sendSum false d 15 <| keepSum true d <| keepSum false d <|
  waits true (src true 15) (srcExact true 15) 15 <| waits false (src false 15) (srcExact false 15) 15 k

/-- Hop `g` of the distribution: what arrived is passed on and kept. -/
def hopFwd (d : Dev nD) (g : ℕ) (k : P (F := F) PUnit) : P (F := F) PUnit :=
  sendFrom true d (dst true (g + 2)) (dstExact true (g + 2)) g <|
  sendFrom false d (dst false (g + 2)) (dstExact false (g + 2)) g <|
  keep true d g <| keep false d g <|
  waits true (dst true (g + 2)) (dstExact true (g + 2)) g <| waits false (dst false (g + 2)) (dstExact false (g + 2)) g k

/-- `n` steps from number `g`, then `k`. -/
def steps (Q : ℕ → P (F := F) PUnit → P (F := F) PUnit) (n : ℕ) : ℕ → P (F := F) PUnit → P (F := F) PUnit :=
  Nat.rec (fun _ k => k) (fun _ ih g k => Q g (ih (g + 1) k)) n

/-- The hops, then `k`. -/
def hops (d : Dev nD) (k : P (F := F) PUnit) : P (F := F) PUnit :=
  hop0 d <| steps (hopAdd d) 14 1 <| hop15 d <| steps (hopFwd d) 14 16 <| keep true d 30 <| keep false d 30 k

/-! ## The body -/

/-- The accumulator, read whole -/
abbrev loadOut (k : Vec F S2048x1024 .f32 → P (F := F) PUnit) : P (F := F) PUnit :=
  .op (.load accM (Rect.unit (s := S2048x1024) ![0, 0] S2048x1024.size inb_S2048x1024_S2048x1024_0_0).toLoadRect (View.loadsAt_vmem h_S2048x1024)) k
/-- and written whole. -/
abbrev storeOut (v : Vec F S2048x1024 .f32) (k : P (F := F) PUnit) : P (F := F) PUnit :=
  .op (.store accM (Rect.unit (s := S2048x1024) ![0, 0] S2048x1024.size inb_S2048x1024_S2048x1024_0_0) v Finset.univ (View.stores_vmem_bits_univ h_S2048x1024 rfl) (.inl rfl)) fun _ => k
abbrev loadX (k : Vec F S2048x512 .bf16 → P (F := F) PUnit) : P (F := F) PUnit :=
  .op (.load xM (Rect.unit (s := S2048x512) ![0, 0] S2048x512.size inb_S2048x512_S2048x512_0_0).toLoadRect (View.loadsAt_vmem h_S2048x512)) k
abbrev loadRouter (k : Vec F S512x64 .bf16 → P (F := F) PUnit) : P (F := F) PUnit :=
  .op (.load rtM (Rect.unit (s := S512x64) ![0, 0] S512x64.size inb_S512x64_S512x64_0_0).toLoadRect (View.loadsAt_vmem h_S512x64)) k
abbrev loadIdx (k : Vec F S2048x1 .i32 → P (F := F) PUnit) : P (F := F) PUnit :=
  .op (.load ixM (Rect.unit (s := S2048x1) ![0, 0] S2048x1.size inb_S2048x1_S2048x1_0_0).toLoadRect (View.loadsAt_vmem h_S2048x1)) k
theorem wInb (j : Fin 4) : ∀ a, (![j.val, 0, 0] : Fin 3 → Nat) a + S1x512x1024.size a ≤ S4x512x1024.size a := by
  fin_cases j
  · exact inb_S4x512x1024_S1x512x1024_0_0_0
  · exact inb_S4x512x1024_S1x512x1024_1_0_0
  · exact inb_S4x512x1024_S1x512x1024_2_0_0
  · exact inb_S4x512x1024_S1x512x1024_3_0_0
/-- The matrix of the device's expert `j`. -/
abbrev wRect (j : Fin 4) : Rect S4x512x1024 := Rect.unit (s := S4x512x1024) ![j.val, 0, 0] S1x512x1024.size (wInb j)
abbrev loadW (j : Fin 4) (k : Vec F S1x512x1024 .bf16 → P (F := F) PUnit) : P (F := F) PUnit :=
  .op (.load wM (wRect j).toLoadRect (View.loadsAt_vmem h_S1x512x1024)) k
abbrev loadShared (k : Vec F S512x1024 .bf16 → P (F := F) PUnit) : P (F := F) PUnit :=
  .op (.load shM (Rect.unit (s := S512x1024) ![0, 0] S512x1024.size inb_S512x1024_S512x1024_0_0).toLoadRect (View.loadsAt_vmem h_S512x1024)) k

/-- The device number among the sixteen, as the program computes it. -/
def devWord (d : Dev nD) : BitVec 32 := Scalar.remsi (Scalar.divsi (Dev.word d) 1#32) 16#32

/-- The device's own contribution: its four experts' products. -/
def ownPart (d : Dev nD) (x : Vec F S2048x512 .bf16) (rt : Vec F S512x64 .bf16) (ix : Vec F S2048x1 .i32)
    (w : Fin 4 → Vec F S1x512x1024 .bf16) : Vec F S2048x1024 .f32 :=
  k0_pay10 (devWord d) (k0_pay2 x) (k0_pay4 ix) (k0_pay6 (k0_pay3 x rt) (k0_pay5 ix))
    (k0_pay7 (devWord d) (k0_pay2 x) (k0_pay3 x rt) (k0_pay4 ix) (k0_pay5 ix) (w 0) (w 1))
    (k0_pay8 (devWord d) (k0_pay3 x rt) (k0_pay4 ix) (k0_pay5 ix)) (k0_pay9 (k0_pay2 x)) (w 2) (w 3)

abbrev barS : Sem sig := (SemArray.scalar (sig.barrier 0 rfl) : Sems sig S_).sem

/-- The end: the shared expert's product, added. -/
def finish (x : Vec F S2048x512 .bf16) : P (F := F) PUnit :=
  loadOut fun v => loadShared fun sw => loadOut fun _ => storeOut (k0_pay1 (k0_pay2 x) v sw) (.ret ⟨⟩)

/-- The device's own part, computed, then the hops and the end. -/
def compute (d : Dev nD) : P (F := F) PUnit :=
  loadX fun x => loadRouter fun rt => loadIdx fun ix =>
  loadW 0 fun w0 => loadW 1 fun w1 => loadW 2 fun w2 => loadW 3 fun w3 =>
  loadOut fun _ => storeOut (ownPart d x rt ix ![w0, w1, w2, w3]) <| hops d <| finish x

/-- The whole body. -/
def handBody : P (F := F) PUnit :=
  .op .deviceId fun d : Dev nD =>
  .op (.semSignal (Dev.tc (⟨k0_dev1 d, k0_dev1_lt d⟩ : Dev nD)) barS 1) fun _ =>
  .op (.semSignal (Dev.tc (⟨k0_dev2 d, k0_dev2_lt d⟩ : Dev nD)) barS 1) fun _ =>
  .op (.semWait barS 2) fun _ => compute d

/-- The printed body is `handBody`. -/
theorem body_eq : bodyAt0 (F := F) t0_0 = handBody := by
  show cc0_body _ _ _ _ _ _ _ _ _ _ _ _ _ _ _ _ _ _ _ _ _ _ _ _ = _
  chain_rfl

end Cert.KernelIdeal.Hand
-- ==== Proof.Common.lean ====
/- What the two streams exchange: the ring, the slots and how they are loaded, stored and sent, the cells, and what each
    message contains. -/
module

public import proofs.«01_k».proof.Proof.Program
public import Idealize.ShloMosaic.Lib.Pipeline.Launch
public import Idealize.ShloMosaic.Lib.Pipeline.Kit
public import Idealize.ShloMosaic.Lib.ViewIndex
public import Idealize.ShloMosaic.Lib.Tactic

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

/-- A program run on device `c`'s core. -/
abbrev run (c : Dev nD) (p : P (F := F) PUnit) (Q : PUnit → sProp 𝕄) : sProp 𝕄 :=
  wp frame (wpE (defs₀ (F := F)) 𝒱₀ (c : Thread nD τ) none) Set.univ p Q

/-! ## The ring -/

/-- The neighbour stream `e` runs to. -/
def nb (e : Bool) (c : Dev nD) : Dev nD := if e then ⟨(c.val + 1) % 16, Nat.mod_lt _ (by decide)⟩ else ⟨(c.val + 15) % 16, Nat.mod_lt _ (by decide)⟩

theorem nb_nb (e : Bool) (c : Dev nD) : nb e (nb (!e) c) = c := by revert e c; decide
theorem nb_nb' (e : Bool) (c : Dev nD) : nb (!e) (nb e c) = c := by revert e c; decide
theorem dev1_eq (c : Dev nD) : (⟨k0_dev1 c, k0_dev1_lt c⟩ : Dev nD) = nb false c := Fin.ext (k0_dev1_eq c)
theorem dev2_eq (c : Dev nD) : (⟨k0_dev2 c, k0_dev2_lt c⟩ : Dev nD) = nb true c := Fin.ext (k0_dev2_eq c)
theorem toDev_eq (e : Bool) (c : Dev nD) : toDev e c = nb e c := by
  cases e
  · exact Fin.ext (k0_dev4_eq c)
  · exact Fin.ext (k0_dev3_eq c)

def ring (e : Bool) : Dev nD ≃ Dev nD := ⟨nb e, nb (!e), nb_nb' e, nb_nb e⟩

/-! ## A message and the slot that holds it -/

/-- A message as the copies see it. -/
def sq {α : Type} (v : S1x64x1024.Idx → α) : S64x1024.Idx → α := fun x => v (Shape.reshapeEquiv squeezes_S1x64x1024_S64x1024.numel_eq x)

theorem sq_inj {α : Type} {v w : S1x64x1024.Idx → α} (h : sq v = sq w) : v = w := funext fun y => by
  have := congrFun h ((Shape.reshapeEquiv squeezes_S1x64x1024_S64x1024.numel_eq).symm y)
  simpa only [sq, Equiv.apply_symm_apply] using this

theorem exists_sq {α : Type} (w : S64x1024.Idx → α) : ∃ v, sq v = w :=
  ⟨fun y => w ((Shape.reshapeEquiv squeezes_S1x64x1024_S64x1024.numel_eq).symm y), funext fun x => by simp only [sq, Equiv.symm_apply_apply]⟩

/-- Owning a slot of device `c` at a message's contents. -/
abbrev slot (c : Dev nD) (a : Memref sig .tc .vmem S64x1024 .bf16) (q : PosShare TreeShare) (w : S64x1024.Idx → Elt F .bf16) : sProp 𝕄 :=
  owns (c : Thread nD τ) a q w
/-- Owning it at some contents. -/
abbrev anySlot (c : Dev nD) (a : Memref sig .tc .vmem S64x1024 .bf16) : sProp 𝕄 := iprop(∃ w, slot (F := F) c a fullShare w)

omit [FloatOps F] in
theorem any_intro (c : Dev nD) (a : Memref sig .tc .vmem S64x1024 .bf16) (w : S64x1024.Idx → Elt F .bf16) :
    slot c a fullShare w ⊢ anySlot (F := F) c a := by iintro H; iexists w; iexact H

omit [FloatOps F] in
/-- Two holders of shares of a slot hold it together. -/
theorem slot_join (c : Dev nD) {a : Memref sig .tc .vmem S64x1024 .bf16} (w : S64x1024.Idx → Elt F .bf16) :
    iprop(slot c a fullShare.left w ∗ slot c a fullShare.right w) ⊢ slot c a fullShare w := by
  unfold slot owns
  iintro ⟨⟨%f, %hf, H1⟩, ⟨%g, %hg, H2⟩⟩
  iexists f
  isplitr; · ipureintro; exact hf
  have h : ∀ i ∈ a.view.set, g i = f i := fun i hi => by
    obtain ⟨x, -, rfl⟩ := Finset.mem_map.mp hi
    exact View.eq_of_read_eq (by rw [hf, hg])
  ihave H2 := (Entails.of_eq (pointsTo_congr h)) $$ H2
  iapply (pointsTo_share (PosShare.mem_left_op_right fullShare)).2
  isplitl [H1] <;> iassumption

omit [FloatOps F] in
theorem slot_split (c : Dev nD) {a : Memref sig .tc .vmem S64x1024 .bf16} (w : S64x1024.Idx → Elt F .bf16) :
    slot c a fullShare w ⊢ iprop(slot c a fullShare.left w ∗ slot c a fullShare.right w) := by
  unfold slot owns
  iintro ⟨%f, %hf, H⟩
  ihave H := (pointsTo_share (PosShare.mem_left_op_right fullShare)).1 $$ H
  icases H with ⟨H1, H2⟩
  isplitl [H1]
  · iexists f; isplitr; · (ipureintro; exact hf)
    iexact H1
  · iexists f; isplitr; · (ipureintro; exact hf)
    iexact H2

omit [FloatOps F] in
theorem read_rSlot (M : Memref sig .tc .vmem S3x64x1024 .bf16) (s : Fin 3) (f : M.view.ty.Contents (Elt F)) :
    (rSlot M s).view.read (Elt F) f = sq ((M.access (rRect s)).read (Elt F) f) := rfl
omit [FloatOps F] in
theorem read_sSlot (M : Memref sig .tc .vmem S2x64x1024 .bf16) (s : Fin 2) (f : M.view.ty.Contents (Elt F)) :
    (sSlot M s).view.read (Elt F) f = sq ((M.access (sRect s)).read (Elt F) f) := rfl
theorem set_rSlot (M : Memref sig .tc .vmem S3x64x1024 .bf16) (s : Fin 3) : (rSlot M s).view.set = (M.access (rRect s)).set :=
  View.set_reshape _ _
theorem set_sSlot (M : Memref sig .tc .vmem S2x64x1024 .bf16) (s : Fin 2) : (sSlot M s).view.set = (M.access (sRect s)).set :=
  View.set_reshape _ _

/-- A receive slot's load. -/
theorem run_loadR (c : Dev nD) (e : Bool) (g : ℕ) (q : PosShare TreeShare) (v : Vec F S1x64x1024 .bf16)
    (k : Vec F S1x64x1024 .bf16 → P (F := F) PUnit) (Q : PUnit → sProp 𝕄) :
    slot c (dst e (g + 2)) q (sq v) ⊢ iprop((slot c (dst e (g + 2)) q (sq v) -∗ run c (k v) Q) -∗ run c (loadR e g k) Q) := by
  unfold slot owns
  rw [set_rSlot]
  iintro ⟨%f, %hf, H⟩ Hk
  have hv : ((rM e).access (rRect (s3 (g + 2)))).read (Elt F) f = v := sq_inj ((read_rSlot (rM e) _ f).symm.trans hf)
  iapply (wp_load_rect 𝒱₀ (c : Thread nD τ) none Set.univ (m := rM e) (r := rRect (s3 (g + 2))) (Finset.Subset.refl _)) $$ H
  iintro H
  rw [hv]
  iapply Hk
  iexists f; isplitr; · (ipureintro; exact hf)
  iexact H

/-- A send slot's load and store. -/
theorem run_fillS (c : Dev nD) (e : Bool) (g : ℕ) (v : Vec F S1x64x1024 .bf16) (k : P (F := F) PUnit) (Q : PUnit → sProp 𝕄) :
    anySlot (F := F) c (src e g) ⊢ iprop((slot c (src e g) fullShare (sq v) -∗ run c k Q) -∗ run c (loadS e g fun _ => storeS e g v k) Q) := by
  unfold anySlot slot owns
  rw [set_sSlot]
  iintro ⟨%w, %f, %hf, H⟩ Hk
  iapply (wp_load_rect 𝒱₀ (c : Thread nD τ) none Set.univ (m := sM e) (r := sRect (s2 g)) (Finset.Subset.refl _)) $$ H
  iintro H
  iapply (wp_store 𝒱₀ (c : Thread nD τ) none Set.univ (m := sM e) (r := sRect (s2 g)) (Mk := Finset.univ)
    (by rw [View.setOn_univ])) $$ H
  iintro H
  iapply Hk
  iexists (((sM e).access (sRect (s2 g))).write (Elt F) f v Finset.univ)
  isplitr
  · ipureintro
    exact (read_sSlot (sM e) _ _).trans (congrArg sq (View.read_write_univ _ _))
  iexact H

/-- The accumulator at contents `f`. -/
abbrev acc (c : Dev nD) (f : Vec F S2048x1024 .f32) : sProp 𝕄 := (c : Thread nD τ).loc cc0_stg5_0 ↦{fullShare} f
/-- A chunk of the accumulator's contents, -/
abbrev rd (e : Bool) (c : Dev nD) (g : ℕ) (f : Vec F S2048x1024 .f32) : Vec F S64x1024 .f32 :=
  (accM.access (chunk e c g)).read (Elt F) f
/-- and the contents with a chunk rewritten. -/
abbrev wr (e : Bool) (c : Dev nD) (g : ℕ) (f : Vec F S2048x1024 .f32) (v : Vec F S64x1024 .f32) : Vec F S2048x1024 .f32 :=
  (accM.access (chunk e c g)).write (Elt F) f v Finset.univ

theorem run_loadAcc (c : Dev nD) (e : Bool) (g : ℕ) (f : Vec F S2048x1024 .f32) (k : Vec F S64x1024 .f32 → P (F := F) PUnit)
    (Q : PUnit → sProp 𝕄) : acc c f ⊢ iprop((acc c f -∗ run c (k (rd e c g f)) Q) -∗ run c (loadAcc e c g k) Q) :=
  wp_load_rect 𝒱₀ (c : Thread nD τ) none Set.univ (m := accM) (r := chunk e c g) (Finset.subset_univ _)

theorem run_storeAcc (c : Dev nD) (e : Bool) (g : ℕ) (f : Vec F S2048x1024 .f32) (v : Vec F S64x1024 .f32) (k : P (F := F) PUnit)
    (Q : PUnit → sProp 𝕄) : acc c f ⊢ iprop((acc c (wr e c g f v) -∗ run c k Q) -∗ run c (storeAcc e c g v k) Q) := by
  iintro H Hk
  iapply (wp_store 𝒱₀ (c : Thread nD τ) none Set.univ (m := accM) (r := chunk e c g) (Mk := Finset.univ) (Finset.subset_univ _)) $$ H
  iexact Hk

/-! ## The cells -/

/-- A device's cells: its barrier's, and each stream's send and receive cells. -/
abbrev Cl : Type := Option (Bool × (Fin 2 ⊕ Fin 3))

abbrev csem : Cl → SemLoc sig
  | none => .reg barS
  | some (e, .inl s) => .dma (sSem (ssA e) s)
  | some (e, .inr s) => .dma (rSem (rsA e) s)

theorem csem_inj : Function.Injective csem := by
  have h : ∀ a b : Cl, csem a = csem b → a = b := by decide +kernel
  exact fun a b => h a b

abbrev kcell (ck : Dev nD × Cl) : GSem nD τ sig := ((ck.1 : Thread nD τ), csem ck.2)

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- Which cell of a device a semaphore is. -/
def code (sm : SemLoc sig) : Cl := Function.invFun csem sm
theorem code_csem (k : Cl) : code (csem k) = k := Function.leftInverse_invFun csem_inj k

/-- The cells of hop `g`. -/
abbrev sC (e : Bool) (g : ℕ) : Cl := some (e, .inl (s2 g))
abbrev rC (e : Bool) (g : ℕ) : Cl := some (e, .inr (s3 g))
abbrev barCell (c : Dev nD) : GSem nD τ sig := kcell (c, none)
abbrev sCell (c : Dev nD) (e : Bool) (g : ℕ) : GSem nD τ sig := kcell (c, sC e g)
abbrev rCell (c : Dev nD) (e : Bool) (g : ℕ) : GSem nD τ sig := kcell (c, rC e g)

/-- What one copy credits. -/
def N : ℕ := (dst true 0).view.dmaCredit
theorem N_pos : 0 < N := View.dmaCredit_pos _ (by decide)
theorem N_dst (e : Bool) (g : ℕ) : (dst e g).view.dmaCredit = N := by cases e <;> rfl
theorem N_src (e : Bool) (g : ℕ) : (src e g).view.dmaCredit = N := by cases e <;> rfl

end Cert.KernelIdeal.Hand
-- ==== Proof.Sched.lean ====
/- The protocol: what each message contains, what each cell's rounds hand over, what a device owes and in which order its
    waits come. -/
module

public import proofs.«01_k».proof.Proof.Common

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

def stgX (c : Dev nD) : (cc0_stg0_0 : Ref sig .tc).ty.Contents (Elt F) :=
  (win0_0.blk (0 : Fin 1)).view.read (Elt F) (m ((c : Thread nD τ).loc main_arg0))
def stgRt (c : Dev nD) : (cc0_stg1_0 : Ref sig .tc).ty.Contents (Elt F) :=
  (win0_1.blk (0 : Fin 1)).view.read (Elt F) (m ((c : Thread nD τ).loc main_arg1))
def stgIx (c : Dev nD) : (cc0_stg2_0 : Ref sig .tc).ty.Contents (Elt F) :=
  (win0_2.blk (0 : Fin 1)).view.read (Elt F) (m ((c : Thread nD τ).loc main_arg2))
def stgW (c : Dev nD) : (cc0_stg3_0 : Ref sig .tc).ty.Contents (Elt F) :=
  (win0_3.blk (0 : Fin 1)).view.read (Elt F) (m ((c : Thread nD τ).loc main_arg3))
def stgSh (c : Dev nD) : (cc0_stg4_0 : Ref sig .tc).ty.Contents (Elt F) :=
  (win0_4.blk (0 : Fin 1)).view.read (Elt F) (m ((c : Thread nD τ).loc main_arg4))

/-- The matrix of the device's expert `j`, as it is loaded. -/
def expert (c : Dev nD) (j : Fin 4) : Vec F S1x512x1024 .bf16 := wM.view.readAt (Elt F) (wRect j).toLoadRect (stgW m c)

/-- The accumulator when the hops begin: the device's own contribution. -/
def own (c : Dev nD) : Vec F S2048x1024 .f32 := ownPart c (stgX m c) (stgRt m c) (stgIx m c) (expert m c)

/-- What device `c` sends on stream `e` at hop `g`: for hops up to 15 its own chunk, added to what it received; from then
    on what it received. -/
def msg (e : Bool) : ℕ → Dev nD → Vec F S1x64x1024 .bf16
  | 0, c => k0_pay11 (rd e c 0 (own m c))
  | g + 1, c => if g < 15 then k0_pay13 (rd e c (g + 1) (own m c)) (msg e g (nb (!e) c)) else msg e g (nb (!e) c)

/-- What device `c` received on stream `e` at the hop before `g`. -/
def inbox (e : Bool) (c : Dev nD) (g : ℕ) : Vec F S1x64x1024 .bf16 := msg m e (g - 1) (nb (!e) c)

/-- What device `c` keeps at hop `g` of stream `e`, from hop 15 on. -/
def kept (e : Bool) (c : Dev nD) (g : ℕ) : Vec F S64x1024 .f32 :=
  if g = 15 then k0_pay55 (rd e c 15 (own m c)) (inbox m e c 15) else k0_pay57 (inbox m e c g)

/-- The accumulator before hop `15 + n`. -/
def accAt (c : Dev nD) : ℕ → Vec F S2048x1024 .f32
  | 0 => own m c
  | n + 1 => wr false c (15 + n) (wr true c (15 + n) (accAt c n) (kept m true c (15 + n))) (kept m false c (15 + n))

/-- The result on device `c`. -/
def outAt (c : Dev nD) : Vec F S2048x1024 .f32 := k0_pay1 (k0_pay2 (stgX m c)) (accAt m c 16) (stgSh m c)

theorem msg_zero (e : Bool) (c : Dev nD) : msg m e 0 c = k0_pay11 (rd e c 0 (own m c)) := rfl
theorem msg_sum (e : Bool) (c : Dev nD) {g : ℕ} (h1 : 1 ≤ g) (h : g ≤ 15) : msg m e g c = k0_pay13 (rd e c g (own m c)) (inbox m e c g) := by
  obtain ⟨n, rfl⟩ := Nat.exists_eq_add_of_le' h1
  show (if n < 15 then _ else _) = _
  rw [if_pos (by omega)]; rfl
theorem msg_fwd (e : Bool) (c : Dev nD) {g : ℕ} (h : 16 ≤ g) : msg m e g c = inbox m e c g := by
  obtain ⟨n, rfl⟩ := Nat.exists_eq_add_of_le' (show 1 ≤ g by omega)
  show (if n < 15 then _ else _) = _
  rw [if_neg (by omega)]; rfl
theorem inbox_succ (e : Bool) (c : Dev nD) (g : ℕ) : inbox m e c (g + 1) = msg m e g (nb (!e) c) := rfl

/-! ## The schedule -/

/-- What device `c` needs to send hop `g` on stream `e`: the neighbour's landing slot, and that the neighbour's receive cell
    is at that hop's round. -/
def permit (e : Bool) (g : ℕ) (c : Dev nD) : sProp 𝕄 :=
  iprop(anySlot (F := F) (nb e c) (dst e g) ∗ reached ER (rCell (nb e c) e g) (g / 3))

/-- What a device hands over with its hop `g` on stream `e`, seen from the receiving device `c`: the permit for the next hop
    of the other stream. -/
def hand (e : Bool) (g : ℕ) (c : Dev nD) : sProp 𝕄 := if g < 29 then permit (F := F) (!e) (g + 1) c else iprop(emp)

/-- What comes back when hop `g`'s copy has left: its source. -/
def sendPay (e : Bool) (g : ℕ) (c : Dev nD) : sProp 𝕄 :=
  if g < 16 then slot c (src e g) fullShare (sq (msg m e g c)) else slot c (dst e (g + 2)) fullShare.left (sq (msg m e g c))

/-- What comes with hop `g`'s copy: the landing slot with the message, and the permit. -/
def recvPay (e : Bool) (g : ℕ) (c : Dev nD) : sProp 𝕄 :=
  iprop(slot c (dst e g) fullShare (sq (inbox m e c (g + 1))) ∗ hand (F := F) e g c)

def dut : Cl → ℕ → Finset Bool
  | none, r => if r = 0 then Finset.univ else ∅
  | some (_, .inl s), r => if 2 * r + s.val < 30 then {false} else ∅
  | some (_, .inr s), r => if 3 * r + s.val < 30 then {false} else ∅

def pay (c : Dev nD) : Cl → ℕ → Bool → sProp 𝕄
  | none, _, d => permit (F := F) d 0 c
  | some (e, .inl s), r, _ => sendPay m e (2 * r + s.val) c
  | some (e, .inr s), r, _ => recvPay m e (3 * r + s.val) c

def amt : Cl → ℕ
  | none => 1
  | some _ => N

theorem amt_pos (k : Cl) : 0 < amt k := match k with | none => Nat.one_pos | some _ => N_pos

/-- The barrier's round 0 has a one-unit duty for each stream, paid by the neighbour that stream runs to; a send or receive
    cell has one duty a round, round `r` of slot `s` being hop `2 r + s` or `3 r + s`. -/
def Rd : Rounds.Schedule (GSem nD τ sig) Bool 𝕄 where
  duties g r := dut (code g.2) r
  unitless _ := False
  amount g _ _ := amt (code g.2)
  payload g r d := pay m g.1.1 (code g.2) r d
  amount_pos g _ _ _ := amt_pos _

omit [FloatOps F] in
instance permit_storable (e : Bool) (g : ℕ) (c : Dev nD) : BI.Storable (upEmb : UEmb _ 𝕄) (permit (F := F) e g c) := by
  unfold permit; infer_instance
omit [FloatOps F] in
instance hand_storable (e : Bool) (g : ℕ) (c : Dev nD) : BI.Storable (upEmb : UEmb _ 𝕄) (hand (F := F) e g c) := by
  unfold hand; split <;> infer_instance

instance Rd_storable (g : GSem nD τ sig) (r : ℕ) (d : Bool) : BI.Storable (upEmb : UEmb _ 𝕄) ((Rd m).payload g r d) := by
  show BI.Storable upEmb (pay m g.1.1 (code g.2) r d)
  rcases code g.2 with _ | ⟨e, s | s⟩
  · unfold pay; infer_instance
  · unfold pay sendPay; dsimp only; split <;> infer_instance
  · unfold pay recvPay; infer_instance

section Sched
variable (c : Dev nD) (e : Bool) (g : ℕ)

theorem duties_k (k : Cl) (r : ℕ) : (Rd m).duties (kcell (c, k)) r = dut k r := by
  show dut (code (csem k)) r = _; rw [code_csem]
theorem amount_k (k : Cl) (r : ℕ) (d : Bool) : (Rd m).amount (kcell (c, k)) r d = amt k := by
  show amt (code (csem k)) = _; rw [code_csem]
theorem payload_k (k : Cl) (r : ℕ) (d : Bool) : (Rd m).payload (kcell (c, k)) r d = pay m c k r d := by
  show pay m c (code (csem k)) r d = _; rw [code_csem]
theorem expect_k (k : Cl) (r : ℕ) : (Rd m).expect (kcell (c, k)) r = (dut k r).card * amt k := by
  unfold Schedule.expect Schedule.amountOf
  rw [duties_k, Finset.sum_congr rfl fun d _ => amount_k m c k r d, Finset.sum_const, smul_eq_mul]

theorem dut_s (h : g < 30) : dut (sC e g) (g / 2) = {false} := if_pos (by show 2 * (g / 2) + g % 2 < 30; omega)
theorem dut_r (h : g < 30) : dut (rC e g) (g / 3) = {false} := if_pos (by show 3 * (g / 3) + g % 3 < 30; omega)
theorem dut_last (k : Cl) (r : ℕ) (h : (match k with | none => 1 | some (_, .inl _) => 15 | some (_, .inr _) => 10) ≤ r) : dut k r = ∅ := by
  rcases k with _ | ⟨e, s | s⟩ <;> dsimp only at h <;> exact if_neg (by omega)

theorem payload_s (d : Bool) : (Rd m).payload (sCell c e g) (g / 2) d = sendPay m e g c := by
  rw [payload_k]; show sendPay m e (2 * (g / 2) + g % 2) c = _; rw [Nat.div_add_mod]
theorem payload_r (d : Bool) : (Rd m).payload (rCell c e g) (g / 3) d = recvPay m e g c := by
  rw [payload_k]; show recvPay m e (3 * (g / 3) + g % 3) c = _; rw [Nat.div_add_mod]
theorem payload_b (d : Bool) : (Rd m).payload (barCell c) 0 d = permit (F := F) d 0 c := payload_k m c none 0 d

theorem expect_s (h : g < 30) : (Rd m).expect (sCell c e g) (g / 2) = N := by
  rw [expect_k, dut_s e g h, Finset.card_singleton, Nat.one_mul]; rfl
theorem expect_r (h : g < 30) : (Rd m).expect (rCell c e g) (g / 3) = N := by
  rw [expect_k, dut_r e g h, Finset.card_singleton, Nat.one_mul]; rfl
theorem expect_b : (Rd m).expect (barCell c) 0 = 2 := by rw [expect_k]; rfl

theorem rest_s (h : g < 30) : bigSep ((Rd m).duties (sCell c e g) (g / 2) \ ∅) (fun d => (Rd m).payload (sCell c e g) (g / 2) d) = sendPay m e g c := by
  rw [Finset.sdiff_empty, duties_k, dut_s e g h, bigSep_singleton, payload_s]
theorem rest_r (h : g < 30) : bigSep ((Rd m).duties (rCell c e g) (g / 3) \ ∅) (fun d => (Rd m).payload (rCell c e g) (g / 3) d) = recvPay m e g c := by
  rw [Finset.sdiff_empty, duties_k, dut_r e g h, bigSep_singleton, payload_r]
theorem rest_b : bigSep ((Rd m).duties (barCell c) 0 \ ∅) (fun d => (Rd m).payload (barCell c) 0 d)
    = iprop(permit (F := F) false 0 c ∗ permit (F := F) true 0 c) := by
  rw [Finset.sdiff_empty, duties_k, show dut none 0 = Finset.univ from rfl, bigSep_univ_eq_bigSepL [false, true] (by decide) (by decide), bigSepL_cons_cons, bigSepL_singleton,
    payload_b, payload_b]
  rfl

end Sched

/-! ## What a device owes, and the order of its waits

Labels are also levels: 0 for the pipeline's own copies and for the send cells, 1 for the barrier, `g + 2` for what hop `g`
receives. -/

/-- The credit of hop `g`'s copy on stream `e`, on the receiving cell. -/
abbrev due (c : Dev nD) (e : Bool) (g : ℕ) : CellTallies nD τ sig ℕ := tallyAt (rCell (nb e c) e g) (g + 2) N
/-- What is owed from hop `g` on. -/
def Owed (c : Dev nD) (g : ℕ) : CellTallies nD τ sig ℕ := ∑ h ∈ Finset.Ico g 30, (due c false h + due c true h)
/-- What is owed at launch: all that, a unit of the right neighbour's barrier and one of the left's. -/
def O₁ (c : Dev nD) : CellTallies nD τ sig ℕ := Owed c 0 + tallyAt (barCell (nb true c)) 1 1
def O₀ (c : Dev nD) : CellTallies nD τ sig ℕ := O₁ c + tallyAt (barCell (nb false c)) 1 1

theorem Ico_pop {g : ℕ} (h : g < 30) : Finset.Ico g 30 = insert g (Finset.Ico (g + 1) 30) := by
  ext i; simp only [Finset.mem_insert, Finset.mem_Ico]; omega
theorem not_mem_pop (g : ℕ) : g ∉ Finset.Ico (g + 1) 30 := fun h => by have := (Finset.mem_Ico.mp h).1; omega

theorem Owed_step (c : Dev nD) {g : ℕ} (h : g < 30) : Owed c g = Owed c (g + 1) + due c false g + due c true g := by
  unfold Owed
  rw [Ico_pop h, Finset.sum_insert (not_mem_pop g), add_comm, add_assoc]
theorem Owed_end (c : Dev nD) : Owed c 30 = 0 := by unfold Owed; rw [Finset.Ico_self, Finset.sum_empty]

@[irreducible] def L (g : GSem nD τ sig) : Finset ℕ := if g.1.2 = .tc then Finset.range 40 else ∅
def lv (_ : GSem nD τ sig) (i : ℕ) : ℕ := i

theorem L_of_ne (g : GSem nD τ sig) (h : g.1.2 ≠ .tc) : L g = ∅ := by unfold L; exact if_neg h
theorem L_tc (c : Dev nD) (sm : SemLoc sig) : L ((c : Thread nD τ), sm) = Finset.range 40 := by unfold L; exact if_pos rfl

theorem Owed_pos {c : Dev nD} {n : ℕ} {g : GSem nD τ sig} {i : ℕ} (h : 0 < Owed c n g i) : g.1.2 = .tc ∧ n + 2 ≤ i ∧ i < 32 := by
  unfold Owed at h
  rw [Finset.sum_apply, Finsupp.finsetSum_apply] at h
  obtain ⟨k, hk, hpos⟩ := Finset.exists_ne_zero_of_sum_ne_zero (Nat.pos_iff_ne_zero.mp h)
  rw [Finset.mem_Ico] at hk
  rcases Pipeline.add_pos_cases (Nat.pos_of_ne_zero hpos) with h' | h' <;>
    · obtain ⟨rfl, rfl⟩ := Pipeline.tallyAt_pos h'
      exact ⟨rfl, by omega, by omega⟩

theorem O₀_pos {c : Dev nD} {g : GSem nD τ sig} {i : ℕ} (h : 0 < O₀ c g i) : g.1.2 = .tc ∧ 1 ≤ i ∧ i < 32 := by
  rcases Pipeline.add_pos_cases h with h' | h'
  · rcases Pipeline.add_pos_cases h' with h'' | h''
    · have := Owed_pos h''; exact ⟨this.1, by omega, this.2.2⟩
    · obtain ⟨rfl, rfl⟩ := Pipeline.tallyAt_pos h''; exact ⟨rfl, by omega, by omega⟩
  · obtain ⟨rfl, rfl⟩ := Pipeline.tallyAt_pos h'; exact ⟨rfl, by omega, by omega⟩

omit [FloatOps F] in
/-- A wait at label `i` is allowed while everything owed has a greater label. -/
theorem mayWait (c : Dev nD) (sm : SemLoc sig) (i : ℕ) (O : CellTallies nD τ sig ℕ) (hi : i < 40)
    (hO : ∀ g j, 0 < O g j → g.1.2 = .tc ∧ i < j ∧ j < 40) : (levAts L lv : sProp 𝕄) ⊢ MayWait (c : Thread nD τ) sm i O :=
  Pipeline.mayWait_of_levAts (by rw [L_tc]; exact Finset.mem_range.mpr hi) fun g j h =>
    ⟨by unfold L; rw [if_pos (hO g j h).1]; exact Finset.mem_range.mpr (hO g j h).2.2, (hO g j h).2.1⟩

/-- The levels of all cells. -/
@[irreducible] def levs : sProp 𝕄 := levAts L lv
omit [FloatOps F] in
theorem levs_eq : levs (F := F) = levAts L lv := by unfold levs; rfl
omit [FloatOps F] in
instance levs_persistent : BI.Persistent (levs (F := F)) := by rw [levs_eq]; infer_instance

omit [FloatOps F] in
theorem mayWait_Owed (c : Dev nD) (sm : SemLoc sig) {i n : ℕ} (h : i < n + 2) (hi : i < 40) :
    levs (F := F) ⊢ MayWait (c : Thread nD τ) sm i (Owed c n) :=
  levs_eq (F := F) ▸ mayWait c sm i _ hi fun g j hp => by have := Owed_pos hp; exact ⟨this.1, by omega, by omega⟩

end Cert.KernelIdeal.Hand
-- ==== Proof.Hop.lean ====
/- One hop of one stream: the sends, the chunks kept and the waits, each with what it takes and leaves. -/
module

public import proofs.«01_k».proof.Proof.Sched

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Dev nD × Cl → ℕ)

/-- The cells' invariants, that every cell has reached round 0, and the levels: what every device knows throughout. -/
def know : sProp 𝕄 :=
  iprop((bigSep Finset.univ fun ck : Dev nD × Cl => cellInv ER (Rd m) (K ck) (kcell ck))
    ∗ (bigSep Finset.univ fun ck : Dev nD × Cl => reached ER (kcell ck) 0) ∗ levs (F := F))

instance know_persistent : BI.Persistent (know m K) := by unfold know; infer_instance

omit [FloatOps F] in
theorem all_at {I : Type} [Fintype I] [DecidableEq I] (Φ : I → sProp 𝕄) (i : I) : bigSep Finset.univ Φ ⊢ Φ i := bigSep_elim (Finset.mem_univ i)

theorem know_inv (c : Dev nD) (k : Cl) : know m K ⊢ cellInv ER (Rd m) (K (c, k)) (kcell (c, k)) := by
  unfold know; iintro ⟨H, -, -⟩
  iapply (all_at (fun ck : Dev nD × Cl => cellInv ER (Rd m) (K ck) (kcell ck)) (c, k)); iexact H
theorem know_reached (c : Dev nD) (k : Cl) : know m K ⊢ reached ER (kcell (c, k)) 0 := by
  unfold know; iintro ⟨-, H, -⟩
  iapply (all_at (fun ck : Dev nD × Cl => (reached ER (kcell ck) 0 : sProp 𝕄)) (c, k)); iexact H
theorem know_lev : know m K ⊢ levs (F := F) := by unfold know; iintro ⟨-, -, H⟩; iexact H

theorem know_mayWait (c : Dev nD) (sm : SemLoc sig) {i n : ℕ} (h : i < n + 2) (hi : i < 40) :
    know m K ⊢ MayWait (c : Thread nD τ) sm i (Owed c n) :=
  (know_lev m K).trans (mayWait_Owed c sm h hi)

/-! ## A copy -/

theorem run_send_to (c n : Dev nD) (e : Bool) (hn : n = nb e c) (g : ℕ) (h : g < 30) (a : Memref sig .tc .vmem S64x1024 .bf16)
    {ha : a.view.WordExact} {hsc : (dst e g : Memref sig (Dev.tc n : Thread nD τ).2.kind .vmem S64x1024 .bf16).view.ref.isScScratch = false}
    {hsem : DmaTarget.Typed .vmem (.dma (rs e g)) (.remote (Dev.tc n : Thread nD τ) (dst e g) (.dma (ss e g)) hsc)}
    (q : PosShare TreeShare) (O : CellTallies nD τ sig ℕ) (W : Waits sig ℕ)
    (k : PUnit → P (F := F) PUnit) (Q : PUnit → sProp 𝕄) (hpay : slot c a q (sq (msg m e g c)) ⊢ sendPay m e g c) :
    iprop(know m K ∗ slot c a q (sq (msg m e g c)) ∗ permit (F := F) e g c ∗ hand (F := F) e g (nb e c)
        ∗ owes (c : Thread nD τ) (O + due c e g) W ∗ dutyTok ER (sCell c e g) (g / 2) false ∗ reached ER (sCell c e g) (g / 2)
        ∗ dutyTok ER (rCell (nb e c) e g) (g / 3) false)
      ⊢ iprop(((cred (tallyAt (sCell c e g) 0 N) ∗ owes (c : Thread nD τ) O W) -∗ run c (k ⟨⟩) Q)
        -∗ run c (.op (.enqueueDma a (.remote (Dev.tc n : Thread nD τ) (dst e g) (.dma (ss e g)) hsc) (.dma (rs e g)) ha (dstExact e g) hsem) k) Q) := by
  subst hn
  unfold permit anySlot
  iintro ⟨#Hkn, Hsrc, ⟨⟨%w, Hd⟩, #Hrr⟩, Hh, HO, HtS, #HrS, HtR⟩ Hk
  ihave #HIs := (know_inv m K c (sC e g)) $$ Hkn
  ihave #HIr := (know_inv m K (nb e c) (rC e g)) $$ Hkn
  unfold slot owns
  icases Hsrc with ⟨%fs, %hfs, Hsrc⟩
  icases Hd with ⟨%fd, %hfd, Hd⟩
  iapply (Rounds.wp_send_pointsTo_with 𝒱₀ ER (Rd m) (c : Thread nD τ) none (κ₁ := K (c, sC e g)) (κ₂ := K (nb e c, rC e g))
    (src := a) (dst := dst e g) (sS := .dma (ss e g)) (sem := .dma (rs e g)) (c' := (nb e c : Thread nD τ))
    (r₁ := g / 2) (r₂ := g / 3) (d₁ := false) (d₂ := false) (fs := fs) (fd := fd) (F := hand (F := F) e g (nb e c)) (q := q)
    (by rw [show (((c : Thread nD τ), SemLoc.dma (ss e g)) : GSem nD τ sig) = sCell c e g from rfl, duties_k, dut_s e g h]; exact Finset.mem_singleton_self _)
    (by rw [show (((nb e c : Thread nD τ), SemLoc.dma (rs e g)) : GSem nD τ sig) = rCell (nb e c) e g from rfl, duties_k, dut_r e g h]; exact Finset.mem_singleton_self _)
    (g + 2) 0 N (N_dst e g) (amount_k m c (sC e g) _ _) (amount_k m (nb e c) (rC e g) _ _) O rfl (W := W)
    (by
      rw [show (((c : Thread nD τ), SemLoc.dma (ss e g)) : GSem nD τ sig) = sCell c e g from rfl, payload_s]
      refine BI.Entails.trans (show _ ⊢ (_ : sProp 𝕄) from ?_) hpay
      unfold slot owns
      iintro H; iexists fs; isplitr; · (ipureintro; exact hfs)
      iexact H)
    (by
      rw [show (((nb e c : Thread nD τ), SemLoc.dma (rs e g)) : GSem nD τ sig) = rCell (nb e c) e g from rfl, payload_r]
      unfold recvPay
      rw [inbox_succ, nb_nb']
      refine sep_mono_left ?_
      unfold slot owns
      iintro H; iexists ((dst e g).view.write (Elt F) fd (a.view.read (Elt F) fs) Finset.univ); isplitr
      · ipureintro; exact (View.read_write_univ _ _).trans hfs
      iexact H)) $$ [Hsrc Hd Hh HO HtS HtR]
  · isplitr; · iexact HIs
    isplitr; · iexact HIr
    isplitl [Hsrc]; · iexact Hsrc
    isplitl [Hd Hh]
    · isplitl [Hd]; · iexact Hd
      iexact Hh
    isplitl [HO]; · iexact HO
    isplitl [HtS]; · iexact HtS
    isplitr; · iexact HrS
    isplitl [HtR]; · iexact HtR
    iexact Hrr
  iexact Hk

/-- What a send of hop `g` spends, besides its source: the permit, what is handed over, and the duty tokens. -/
def fee (e : Bool) (g : ℕ) (c : Dev nD) : sProp 𝕄 :=
  iprop(permit (F := F) e g c ∗ hand (F := F) e g (nb e c) ∗ dutyTok ER (sCell c e g) (g / 2) false ∗ reached ER (sCell c e g) (g / 2)
    ∗ dutyTok ER (rCell (nb e c) e g) (g / 3) false)

theorem run_sendFrom (c : Dev nD) (e : Bool) (g : ℕ) (h : g < 30) (a : Memref sig .tc .vmem S64x1024 .bf16) (ha : a.view.WordExact)
    (q : PosShare TreeShare) (O : CellTallies nD τ sig ℕ) (W : Waits sig ℕ)
    (k : P (F := F) PUnit) (Q : PUnit → sProp 𝕄) (hpay : slot c a q (sq (msg m e g c)) ⊢ sendPay m e g c) :
    iprop(know m K ∗ slot c a q (sq (msg m e g c)) ∗ fee (F := F) e g c ∗ owes (c : Thread nD τ) (O + due c e g) W)
      ⊢ iprop(((cred (tallyAt (sCell c e g) 0 N) ∗ owes (c : Thread nD τ) O W) -∗ run c k Q) -∗ run c (sendFrom e c a ha g k) Q) := by
  refine BI.Entails.trans (show _ ⊢ (_ : sProp 𝕄) from ?_) (run_send_to m K c (toDev e c) e (toDev_eq e c) g h a q O W (fun _ => k) Q hpay)
  unfold fee
  iintro ⟨H1, H2, ⟨H3, H4, H5, H6, H7⟩, H8⟩
  isplitl [H1]; · iexact H1
  isplitl [H2]; · iexact H2
  isplitl [H3]; · iexact H3
  isplitl [H4]; · iexact H4
  isplitl [H8]; · iexact H8
  isplitl [H5]; · iexact H5
  isplitl [H6] <;> iassumption

/-- Hop 0's send. -/
theorem run_sendOwn (c : Dev nD) (e : Bool) (O : CellTallies nD τ sig ℕ) (W : Waits sig ℕ) (k : P (F := F) PUnit) (Q : PUnit → sProp 𝕄) :
    iprop(know m K ∗ acc c (own m c) ∗ anySlot (F := F) c (src e 0) ∗ fee (F := F) e 0 c ∗ owes (c : Thread nD τ) (O + due c e 0) W)
      ⊢ iprop(((acc c (own m c) ∗ cred (tallyAt (sCell c e 0) 0 N) ∗ owes (c : Thread nD τ) O W) -∗ run c k Q) -∗ run c (sendOwn e c k) Q) := by
  unfold sendOwn
  iintro ⟨#Hkn, Ha, Hs, Hfee, HO⟩ Hk
  iapply (run_loadAcc c e 0) $$ Ha
  iintro Ha
  iapply (run_fillS c e 0) $$ Hs
  iintro Hs
  iapply (run_sendFrom m K c e 0 (by omega) (src e 0) (srcExact e 0) fullShare O W k Q
    (by unfold sendPay; rw [if_pos (by omega)])) $$ [Hs Hfee HO]
  · isplitr; · iexact Hkn
    isplitl [Hs]; · rw [msg_zero]; iexact Hs
    isplitl [Hfee] <;> iassumption
  iintro ⟨Hc, HO⟩
  iapply Hk
  isplitl [Ha]; · iexact Ha
  isplitl [Hc] <;> iassumption

/-- A send of the reduction. -/
theorem run_sendSum (c : Dev nD) (e : Bool) {g : ℕ} (h1 : 1 ≤ g) (h : g ≤ 15) (O : CellTallies nD τ sig ℕ) (W : Waits sig ℕ) (k : P (F := F) PUnit)
    (Q : PUnit → sProp 𝕄) :
    iprop(know m K ∗ acc c (own m c) ∗ slot c (dst e (g + 2)) fullShare (sq (inbox m e c g)) ∗ anySlot (F := F) c (src e g) ∗ fee (F := F) e g c
        ∗ owes (c : Thread nD τ) (O + due c e g) W)
      ⊢ iprop(((acc c (own m c) ∗ slot c (dst e (g + 2)) fullShare (sq (inbox m e c g)) ∗ cred (tallyAt (sCell c e g) 0 N)
        ∗ owes (c : Thread nD τ) O W) -∗ run c k Q) -∗ run c (sendSum e c g k) Q) := by
  unfold sendSum
  iintro ⟨#Hkn, Ha, Hr, Hs, Hfee, HO⟩ Hk
  iapply (run_loadAcc c e g) $$ Ha
  iintro Ha
  iapply (run_loadR c e g) $$ Hr
  iintro Hr
  iapply (run_fillS c e g) $$ Hs
  iintro Hs
  iapply (run_sendFrom m K c e g (by omega) (src e g) (srcExact e g) fullShare O W k Q
    (by unfold sendPay; rw [if_pos (by omega)])) $$ [Hs Hfee HO]
  · isplitr; · iexact Hkn
    isplitl [Hs]; · rw [msg_sum m e c h1 h]; iexact Hs
    isplitl [Hfee] <;> iassumption
  iintro ⟨Hc, HO⟩
  iapply Hk
  isplitl [Ha]; · iexact Ha
  isplitl [Hr]; · iexact Hr
  isplitl [Hc] <;> iassumption

/-- A send of the distribution: half of the slot stays. -/
theorem run_sendFwd (c : Dev nD) (e : Bool) {g : ℕ} (h1 : 16 ≤ g) (h : g < 30) (O : CellTallies nD τ sig ℕ) (W : Waits sig ℕ) (k : P (F := F) PUnit)
    (Q : PUnit → sProp 𝕄) :
    iprop(know m K ∗ slot c (dst e (g + 2)) fullShare (sq (inbox m e c g)) ∗ fee (F := F) e g c ∗ owes (c : Thread nD τ) (O + due c e g) W)
      ⊢ iprop(((slot c (dst e (g + 2)) fullShare.right (sq (inbox m e c g)) ∗ cred (tallyAt (sCell c e g) 0 N)
        ∗ owes (c : Thread nD τ) O W) -∗ run c k Q) -∗ run c (sendFrom e c (dst e (g + 2)) (dstExact e (g + 2)) g k) Q) := by
  iintro ⟨#Hkn, Hr, Hfee, HO⟩ Hk
  ihave Hr := (slot_split (F := F) c _) $$ Hr
  icases Hr with ⟨Hl, Hr⟩
  iapply (run_sendFrom m K c e g h (dst e (g + 2)) (dstExact e (g + 2)) fullShare.left O W k Q
    (by unfold sendPay; rw [if_neg (by omega)])) $$ [Hl Hfee HO]
  · isplitr; · iexact Hkn
    isplitl [Hl]; · rw [msg_fwd m e c h1]; iexact Hl
    isplitl [Hfee] <;> iassumption
  iintro ⟨Hc, HO⟩
  iapply Hk
  isplitl [Hr]; · iexact Hr
  isplitl [Hc] <;> iassumption

/-! ## The chunks kept -/

theorem run_keepSum (c : Dev nD) (e : Bool) (f : Vec F S2048x1024 .f32) (q : PosShare TreeShare) (hf : rd e c 15 f = rd e c 15 (own m c)) (k : P (F := F) PUnit) (Q : PUnit → sProp 𝕄) :
    iprop(acc c f ∗ slot c (dst e (15 + 2)) q (sq (inbox m e c 15)))
      ⊢ iprop(((acc c (wr e c 15 f (kept m e c 15)) ∗ slot c (dst e (15 + 2)) q (sq (inbox m e c 15))) -∗ run c k Q) -∗ run c (keepSum e c k) Q) := by
  unfold keepSum
  iintro ⟨Ha, Hr⟩ Hk
  iapply (run_loadAcc c e 15) $$ Ha
  iintro Ha
  iapply (run_loadR c e 15) $$ Hr
  iintro Hr
  iapply (run_loadAcc c e 15) $$ Ha
  iintro Ha
  iapply (run_storeAcc c e 15) $$ Ha
  iintro Ha
  iapply Hk
  isplitl [Ha]
  · rw [show kept m e c 15 = k0_pay55 (rd e c 15 f) (inbox m e c 15) by rw [hf]; exact if_pos rfl]; iexact Ha
  iexact Hr

theorem run_keep (c : Dev nD) (e : Bool) (g : ℕ) (f : Vec F S2048x1024 .f32) (q : PosShare TreeShare) (hg : g ≠ 15) (k : P (F := F) PUnit) (Q : PUnit → sProp 𝕄) :
    iprop(acc c f ∗ slot c (dst e (g + 2)) q (sq (inbox m e c g)))
      ⊢ iprop(((acc c (wr e c g f (kept m e c g)) ∗ slot c (dst e (g + 2)) q (sq (inbox m e c g))) -∗ run c k Q) -∗ run c (keep e c g k) Q) := by
  unfold keep
  iintro ⟨Ha, Hr⟩ Hk
  iapply (run_loadR c e g) $$ Hr
  iintro Hr
  iapply (run_loadAcc c e g) $$ Ha
  iintro Ha
  iapply (run_storeAcc c e g) $$ Ha
  iintro Ha
  iapply Hk
  isplitl [Ha]
  · rw [show kept m e c g = k0_pay57 (inbox m e c g) from if_neg hg]; iexact Ha
  iexact Hr

/-! ## The waits -/

theorem run_waits (c : Dev nD) (e : Bool) {g : ℕ} (h : g < 30) (a : Memref sig .tc .vmem S64x1024 .bf16) (ha : a.view.WordExact)
    (hN : a.view.dmaCredit = N) (W : Waits sig ℕ) (k : P (F := F) PUnit) (Q : PUnit → sProp 𝕄) :
    iprop(know m K ∗ cred (tallyAt (sCell c e g) 0 N) ∗ cred (tallyAt (rCell c e g) (g + 2) N) ∗ owes (c : Thread nD τ) (Owed c (g + 1)) W
        ∗ atPos ER (sCell c e g) (g / 2) ∅ 0 ∗ atPos ER (rCell c e g) (g / 3) ∅ 0)
      ⊢ iprop((((∃ W', owes (c : Thread nD τ) (Owed c (g + 1)) W') ∗ sendPay m e g c ∗ recvPay m e g c
          ∗ atPos ER (sCell c e g) (g / 2 + 1) ∅ 0 ∗ reached ER (sCell c e g) (g / 2 + 1)
          ∗ atPos ER (rCell c e g) (g / 3 + 1) ∅ 0 ∗ reached ER (rCell c e g) (g / 3 + 1)) -∗ run c k Q) -∗ run c (waits e a ha g k) Q) := by
  unfold waits
  iintro ⟨#Hkn, HcS, HcR, HO, HpS, HpR⟩ Hk
  ihave #HIs := (know_inv m K c (sC e g)) $$ Hkn
  ihave #HIr := (know_inv m K c (rC e g)) $$ Hkn
  iapply (Rounds.wp_wait_rest_token 𝒱₀ ER (Rd m) (c : Thread nD τ) none (κ := K (c, sC e g))
      ((wpE_waitDma2_eq 𝒱₀ (c : Thread nD τ) none Set.univ)) (Set.mem_univ _) 0 (O := Owed c (g + 1)) (W := W) (R := g / 2) (m := 0) (T := ∅)
      ((Nat.zero_add _).trans (hN.trans (expect_s m c e g h).symm))) $$ [HcS HO HpS]
  · isplitr; · iexact HIs
    isplitl [HcS]; · rw [hN]; iexact HcS
    isplitl [HO]; · iexact HO
    isplitr; · iapply (know_mayWait m K c _ (i := 0) (n := g + 1) (by omega) (by omega)); iexact Hkn
    iexact HpS
  iintro ⟨HO, HpS, HrS, Hpay⟩
  ihave HsP := (Entails.of_eq (rest_s m c e g h)) $$ Hpay
  iapply (Rounds.wp_wait_rest_token 𝒱₀ ER (Rd m) (c : Thread nD τ) none (κ := K (c, rC e g))
      ((wpE_waitDma2_eq 𝒱₀ (c : Thread nD τ) none Set.univ)) (Set.mem_univ _) (g + 2) (O := Owed c (g + 1)) (R := g / 3) (m := 0) (T := ∅)
      ((Nat.zero_add _).trans ((N_dst e g).trans (expect_r m c e g h).symm))) $$ [HcR HO HpR]
  · isplitr; · iexact HIr
    isplitl [HcR]; · rw [N_dst]; iexact HcR
    isplitl [HO]; · iexact HO
    isplitr; · iapply (know_mayWait m K c _ (i := g + 2) (n := g + 1) (by omega) (by omega)); iexact Hkn
    iexact HpR
  iintro ⟨HO, HpR, HrR, Hpay⟩
  ihave HrP := (Entails.of_eq (rest_r m c e g h)) $$ Hpay
  iapply Hk
  isplitl [HO]; · iexists _; iexact HO
  isplitl [HsP]; · iexact HsP
  isplitl [HrP]; · iexact HrP
  isplitl [HpS]; · iexact HpS
  isplitl [HrS]; · iexact HrS
  isplitl [HpR] <;> iassumption

end Cert.KernelIdeal.Hand
-- ==== Proof.Hops.lean ====
/- The thirty hops of a device: what it holds between two hops, one hop from the stream's steps, and all of them. -/
module

public import proofs.«01_k».proof.Proof.Hop

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Dev nD × Cl → ℕ)

/-! ## The chunks -/

/-- The number of the chunk of stream `e` at hop `g`, of 32 chunks of 64 rows. -/
def chunkIx (e : Bool) (c : Dev nD) (g : ℕ) : ℕ := if e then (c.val + 32 - g) % 16 else (c.val + g) % 16 + 16

theorem off_eq (e : Bool) (c : Dev nD) {g : ℕ} (h : g < 31) : off e c g = ![64 * chunkIx e c g, 0] := by
  have hg : (hop g).val = g := Nat.mod_eq_of_lt h
  cases e
  · show k0_off2 c (BitVec.ofNat 32 (hop g).val) = _
    rw [k0_off2_eq, hg, show chunkIx false c g = (c.val + g) % 16 + 16 from rfl]; congr 1
  · show k0_off1 c (BitVec.ofNat 32 (hop g).val) = _
    rw [k0_off1_eq, hg]; rfl

/-- The streams' chunks are apart. -/
theorem rd_wr (c : Dev nD) (f : Vec F S2048x1024 .f32) (v : Vec F S64x1024 .f32) : rd false c 15 (wr true c 15 f v) = rd false c 15 f := by
  refine View.read_slice_write_slice_of_disjoint _ _ _ _ _ (h := ?_)
  rw [View.setOn_univ]
  refine View.disjoint_slice (Rect.unit_disjoint (0 : Fin 2) (Or.inr ?_))
  rw [off_eq false c (by omega), off_eq true c (by omega)]
  show 64 * chunkIx true c 15 + 64 ≤ 64 * chunkIx false c 15
  unfold chunkIx
  rw [if_pos rfl, if_neg (by decide)]
  omega

/-! ## Between two hops -/

/-- The cells' positions of slots that come round again, and the tokens of the hops ahead. -/
def ahead (e : Bool) (c : Dev nD) (g : ℕ) : sProp 𝕄 :=
  bigSep (Finset.Ico g 30) fun h =>
    iprop(dutyTok ER (sCell c e h) (h / 2) false ∗ dutyTok ER (rCell (nb e c) e h) (h / 3) false ∗ cred (tallyAt (rCell c e h) (h + 2) N))

theorem ahead_pop (e : Bool) (c : Dev nD) {g : ℕ} (h : g < 30) :
    ahead (F := F) e c g = iprop((dutyTok ER (sCell c e g) (g / 2) false ∗ dutyTok ER (rCell (nb e c) e g) (g / 3) false
      ∗ cred (tallyAt (rCell c e g) (g + 2) N)) ∗ ahead (F := F) e c (g + 1)) := by
  unfold ahead
  rw [Ico_pop h, bigSep_insert (not_mem_pop g)]
  rfl

/-- What of a stream hop `g` does not touch. -/
def carry (e : Bool) (c : Dev nD) (g : ℕ) : sProp 𝕄 :=
  iprop((if g < 29 then iprop(emp) else anySlot (F := F) c (dst e (g + 1))) ∗ anySlot (F := F) c (src e (g + 1))
    ∗ atPos ER (sCell c e (g + 1)) ((g + 1) / 2) ∅ 0 ∗ reached ER (sCell c e (g + 1)) ((g + 1) / 2)
    ∗ atPos ER (rCell c e (g + 1)) ((g + 1) / 3) ∅ 0 ∗ atPos ER (rCell c e (g + 2)) ((g + 2) / 3) ∅ 0
    ∗ reached ER (rCell c e (g + 2)) ((g + 2) / 3)
    ∗ ahead (F := F) e c (g + 1))

/-- What device `c` holds of stream `e` before hop `g`, the slot of the hop before at contents `w`. -/
def St (e : Bool) (c : Dev nD) (g : ℕ) (w : S64x1024.Idx → Elt F .bf16) : sProp 𝕄 :=
  iprop(slot c (dst e (g + 2)) fullShare w ∗ anySlot (F := F) c (dst e (g + 1))
    ∗ (if g < 30 then permit (F := F) e g c else anySlot (F := F) c (dst e g))
    ∗ anySlot (F := F) c (src e g) ∗ anySlot (F := F) c (src e (g + 1))
    ∗ atPos ER (sCell c e g) (g / 2) ∅ 0 ∗ atPos ER (sCell c e (g + 1)) ((g + 1) / 2) ∅ 0
    ∗ reached ER (sCell c e g) (g / 2) ∗ reached ER (sCell c e (g + 1)) ((g + 1) / 2)
    ∗ atPos ER (rCell c e g) (g / 3) ∅ 0 ∗ atPos ER (rCell c e (g + 1)) ((g + 1) / 3) ∅ 0 ∗ atPos ER (rCell c e (g + 2)) ((g + 2) / 3) ∅ 0
    ∗ reached ER (rCell c e (g + 1)) ((g + 1) / 3) ∗ reached ER (rCell c e (g + 2)) ((g + 2) / 3)
    ∗ ahead (F := F) e c g)

/-- The other stream's send may hand this one's free slot over. -/
theorem hand_intro (e : Bool) (c : Dev nD) {g : ℕ} :
    iprop(anySlot (F := F) c (dst e (g + 1)) ∗ reached ER (rCell c e (g + 1)) ((g + 1) / 3))
      ⊢ iprop(hand (F := F) (!e) g (nb (!e) c) ∗ (if g < 29 then iprop(emp) else anySlot (F := F) c (dst e (g + 1)))) := by
  unfold hand
  split
  · unfold permit
    rw [Bool.not_not, nb_nb]
    iintro ⟨H1, H2⟩
    isplitl
    · isplitl [H1] <;> iassumption
    · iempintro
  · iintro ⟨H1, -⟩
    isplitr
    · iempintro
    · iexact H1

/-- A stream's holdings, taken apart for hop `g`. -/
theorem St_open (e : Bool) (c : Dev nD) {g : ℕ} (h : g < 30) (w : S64x1024.Idx → Elt F .bf16) :
    St e c g w ⊢ iprop(slot c (dst e (g + 2)) fullShare w ∗ hand (F := F) (!e) g (nb (!e) c) ∗ anySlot (F := F) c (src e g)
      ∗ (permit (F := F) e g c ∗ dutyTok ER (sCell c e g) (g / 2) false ∗ reached ER (sCell c e g) (g / 2) ∗ dutyTok ER (rCell (nb e c) e g) (g / 3) false)
      ∗ (cred (tallyAt (rCell c e g) (g + 2) N) ∗ atPos ER (sCell c e g) (g / 2) ∅ 0 ∗ atPos ER (rCell c e g) (g / 3) ∅ 0)
      ∗ carry (F := F) e c g) := by
  unfold St carry
  rw [ahead_pop e c h, if_pos h]
  iintro ⟨Hw, Hfree, Hp, Hs, Hs1, Has, Has1, #Hrs, Hrs1, Har, Har1, Har2, Hrr1, Hrr2, ⟨Ht1, Ht2, Hc⟩, Hah⟩
  ihave Hh := (hand_intro (F := F) e c) $$ [Hfree Hrr1]
  · isplitl [Hfree] <;> iassumption
  icases Hh with ⟨Hh, Hl⟩
  isplitl [Hw]; · iexact Hw
  isplitl [Hh]; · iexact Hh
  isplitl [Hs]; · iexact Hs
  isplitl [Hp Ht1 Ht2]
  · isplitl [Hp]; · iexact Hp
    isplitl [Ht1]; · iexact Ht1
    isplitr; · iexact Hrs
    iexact Ht2
  isplitl [Hc Has Har]
  · isplitl [Hc]; · iexact Hc
    isplitl [Has] <;> iassumption
  isplitl [Hl]; · iexact Hl
  isplitl [Hs1]; · iexact Hs1
  isplitl [Has1]; · iexact Has1
  isplitl [Hrs1]; · iexact Hrs1
  isplitl [Har1]; · iexact Har1
  isplitl [Har2]; · iexact Har2
  isplitl [Hrr2] <;> iassumption

theorem fee_intro (e : Bool) (c : Dev nD) (g : ℕ) :
    iprop((permit (F := F) e g c ∗ dutyTok ER (sCell c e g) (g / 2) false ∗ reached ER (sCell c e g) (g / 2) ∗ dutyTok ER (rCell (nb e c) e g) (g / 3) false)
      ∗ hand (F := F) e g (nb e c)) ⊢ fee (F := F) e g c := by
  unfold fee
  iintro ⟨⟨H1, H2, H3, H4⟩, H5⟩
  isplitl [H1]; · iexact H1
  isplitl [H5]; · iexact H5
  isplitl [H2]; · iexact H2
  isplitl [H3] <;> iassumption

theorem s3_add (g : ℕ) : s3 (g + 3) = s3 g := Fin.ext (by show (g + 3) % 3 = g % 3; omega)
theorem s2_add (g : ℕ) : s2 (g + 2) = s2 g := Fin.ext (by show (g + 2) % 2 = g % 2; omega)
theorem dst_add (e : Bool) (g : ℕ) : dst e (g + 3) = dst e g := by unfold dst; rw [s3_add]
theorem src_add (e : Bool) (g : ℕ) : src e (g + 2) = src e g := by unfold src; rw [s2_add]
theorem rCell_add (c : Dev nD) (e : Bool) (g : ℕ) : rCell c e (g + 3) = rCell c e g := by unfold rCell; unfold rC; rw [s3_add]
theorem sCell_add (c : Dev nD) (e : Bool) (g : ℕ) : sCell c e (g + 2) = sCell c e g := by unfold sCell; unfold sC; rw [s2_add]

theorem perm_close (e : Bool) (c : Dev nD) (g : ℕ) :
    iprop((if g < 29 then permit (F := F) e (g + 1) c else iprop(emp)) ∗ (if g < 29 then iprop(emp) else anySlot (F := F) c (dst e (g + 1))))
      ⊢ (if g + 1 < 30 then permit (F := F) e (g + 1) c else anySlot (F := F) c (dst e (g + 1))) := by
  by_cases hg : g < 29
  · rw [if_pos hg, if_pos hg, if_pos (show g + 1 < 30 by omega)]
    iintro ⟨H, -⟩; iexact H
  · rw [if_neg hg, if_neg hg, if_neg (show ¬ g + 1 < 30 by omega)]
    iintro ⟨-, H⟩; iexact H

/-- A stream's holdings after hop `g`, from what the hop left. `hand (!e) g c` came with the other stream's copy. -/
theorem St_close (e : Bool) (c : Dev nD) {g : ℕ} (h : g < 30) (w : S64x1024.Idx → Elt F .bf16) :
    iprop(slot c (dst e g) fullShare w ∗ anySlot (F := F) c (dst e (g + 2)) ∗ anySlot (F := F) c (src e g) ∗ hand (F := F) (!e) g c
      ∗ (atPos ER (sCell c e g) (g / 2 + 1) ∅ 0 ∗ reached ER (sCell c e g) (g / 2 + 1)
          ∗ atPos ER (rCell c e g) (g / 3 + 1) ∅ 0 ∗ reached ER (rCell c e g) (g / 3 + 1))
      ∗ carry (F := F) e c g) ⊢ St e c (g + 1) w := by
  unfold St carry hand
  rw [show g + 1 + 2 = g + 3 from rfl, show g + 1 + 1 = g + 2 from rfl, dst_add, src_add, rCell_add, sCell_add, show (g + 3) / 3 = g / 3 + 1 by omega,
    show (g + 2) / 2 = g / 2 + 1 by omega, Bool.not_not]
  iintro ⟨Hw, Hold, Hs, Hh, ⟨Has, Hrs, Har, Hrr⟩, Hl, Hs1, Has1, Hrs1, Har1, Har2, Hrr2, Hah⟩
  isplitl [Hw]; · iexact Hw
  isplitl [Hold]; · iexact Hold
  isplitl [Hh Hl]
  · iapply (perm_close (F := F) e c g) $$ [Hh Hl]
    isplitl [Hh] <;> iassumption
  isplitl [Hs1]; · iexact Hs1
  isplitl [Hs]; · iexact Hs
  isplitl [Has1]; · iexact Has1
  isplitl [Has]; · iexact Has
  isplitl [Hrs1]; · iexact Hrs1
  isplitl [Hrs]; · iexact Hrs
  isplitl [Har1]; · iexact Har1
  isplitl [Har2]; · iexact Har2
  isplitl [Har]; · iexact Har
  isplitl [Hrr2]; · iexact Hrr2
  isplitl [Hrr]; · iexact Hrr
  iexact Hah

/-- Everything device `c` holds before hop `g`, the accumulator at `A` and the streams' slots at `w`. -/
def Inv (c : Dev nD) (g : ℕ) (A : Vec F S2048x1024 .f32) (w : Bool → S64x1024.Idx → Elt F .bf16) : sProp 𝕄 :=
  iprop(acc c A ∗ St true c g (w true) ∗ St false c g (w false) ∗ ∃ W, owes (c : Thread nD τ) (Owed c g) W)

/-- Both streams' waits of hop `g`, and the holdings put together again. `old e` is what stands for the copy's source until
    it is back. -/
theorem run_waits_both (c : Dev nD) {g : ℕ} (h : g < 30) (A : Vec F S2048x1024 .f32)
    (a : Bool → Memref sig .tc .vmem S64x1024 .bf16) (ha : ∀ e, (a e).view.WordExact) (hN : ∀ e, (a e).view.dmaCredit = N)
    (old : Bool → sProp 𝕄)
    (hold : ∀ e, iprop(old e ∗ sendPay m e g c) ⊢ iprop(anySlot (F := F) c (dst e (g + 2)) ∗ anySlot (F := F) c (src e g)))
    (W : Waits sig ℕ) (k : P (F := F) PUnit) (Q : PUnit → sProp 𝕄) :
    iprop(know m K ∗ (acc c A ∗ owes (c : Thread nD τ) (Owed c (g + 1)) W)
      ∗ (old true ∗ cred (tallyAt (sCell c true g) 0 N)
        ∗ (cred (tallyAt (rCell c true g) (g + 2) N) ∗ atPos ER (sCell c true g) (g / 2) ∅ 0 ∗ atPos ER (rCell c true g) (g / 3) ∅ 0) ∗ carry (F := F) true c g)
      ∗ (old false ∗ cred (tallyAt (sCell c false g) 0 N)
        ∗ (cred (tallyAt (rCell c false g) (g + 2) N) ∗ atPos ER (sCell c false g) (g / 2) ∅ 0 ∗ atPos ER (rCell c false g) (g / 3) ∅ 0) ∗ carry (F := F) false c g))
      ⊢ iprop((Inv c (g + 1) A (fun e => sq (inbox m e c (g + 1))) -∗ run c k Q)
        -∗ run c (waits true (a true) (ha true) g <| waits false (a false) (ha false) g k) Q) := by
  iintro ⟨#Hkn, ⟨Ha, HO⟩, ⟨Ho1, Hcs1, ⟨Hcr1, Hps1, Hpr1⟩, Hca1⟩, ⟨Ho2, Hcs2, ⟨Hcr2, Hps2, Hpr2⟩, Hca2⟩⟩ Hk
  iapply (run_waits m K c true h (a true) (ha true) (hN true) W) $$ [Hcs1 Hcr1 HO Hps1 Hpr1]
  · isplitr; · iexact Hkn
    isplitl [Hcs1]; · iexact Hcs1
    isplitl [Hcr1]; · iexact Hcr1
    isplitl [HO]; · iexact HO
    isplitl [Hps1] <;> iassumption
  iintro ⟨⟨%W1, HO⟩, Hsp1, Hrp1, Hpos1⟩
  iapply (run_waits m K c false h (a false) (ha false) (hN false) W1) $$ [Hcs2 Hcr2 HO Hps2 Hpr2]
  · isplitr; · iexact Hkn
    isplitl [Hcs2]; · iexact Hcs2
    isplitl [Hcr2]; · iexact Hcr2
    isplitl [HO]; · iexact HO
    isplitl [Hps2] <;> iassumption
  iintro ⟨HO, Hsp2, Hrp2, Hpos2⟩
  ihave Hb1 := (hold true) $$ [Ho1 Hsp1]
  · isplitl [Ho1] <;> iassumption
  ihave Hb2 := (hold false) $$ [Ho2 Hsp2]
  · isplitl [Ho2] <;> iassumption
  icases Hb1 with ⟨Hd1, Hs1⟩
  icases Hb2 with ⟨Hd2, Hs2⟩
  unfold recvPay
  icases Hrp1 with ⟨Hw1, Hh1⟩
  icases Hrp2 with ⟨Hw2, Hh2⟩
  iapply Hk
  unfold Inv
  isplitl [Ha]; · iexact Ha
  isplitl [Hw1 Hd1 Hs1 Hh2 Hpos1 Hca1]
  · iapply (St_close (F := F) true c h (sq (inbox m true c (g + 1))))
    isplitl [Hw1]; · iexact Hw1
    isplitl [Hd1]; · iexact Hd1
    isplitl [Hs1]; · iexact Hs1
    isplitl [Hh2]; · iexact Hh2
    isplitl [Hpos1] <;> iassumption
  isplitl [Hw2 Hd2 Hs2 Hh1 Hpos2 Hca2]
  · iapply (St_close (F := F) false c h (sq (inbox m false c (g + 1))))
    isplitl [Hw2]; · iexact Hw2
    isplitl [Hd2]; · iexact Hd2
    isplitl [Hs2]; · iexact Hs2
    isplitl [Hh1]; · iexact Hh1
    isplitl [Hpos2] <;> iassumption
  iexact HO

/-- One stream's part of the holdings, opened, the fee for its send made up. -/
def Open (e : Bool) (c : Dev nD) (g : ℕ) (w : S64x1024.Idx → Elt F .bf16) : sProp 𝕄 :=
  iprop(slot c (dst e (g + 2)) fullShare w ∗ anySlot (F := F) c (src e g) ∗ fee (F := F) e g c
    ∗ (cred (tallyAt (rCell c e g) (g + 2) N) ∗ atPos ER (sCell c e g) (g / 2) ∅ 0 ∗ atPos ER (rCell c e g) (g / 3) ∅ 0)
    ∗ carry (F := F) e c g)

theorem Inv_open (c : Dev nD) {g : ℕ} (h : g < 30) (A : Vec F S2048x1024 .f32) (w : Bool → S64x1024.Idx → Elt F .bf16) :
    Inv c g A w ⊢ iprop(acc c A ∗ Open true c g (w true) ∗ Open false c g (w false)
      ∗ ∃ W, owes (c : Thread nD τ) (Owed c (g + 1) + due c false g + due c true g) W) := by
  unfold Inv Open
  rw [Owed_step c h]
  iintro ⟨Ha, H1, H2, HO⟩
  ihave H1 := (St_open (F := F) true c h (w true)) $$ H1
  ihave H2 := (St_open (F := F) false c h (w false)) $$ H2
  icases H1 with ⟨Hw1, Hh1, Hs1, Hf1, Hr1, Hc1⟩
  icases H2 with ⟨Hw2, Hh2, Hs2, Hf2, Hr2, Hc2⟩
  isplitl [Ha]; · iexact Ha
  isplitl [Hw1 Hh2 Hs1 Hf1 Hr1 Hc1]
  · isplitl [Hw1]; · iexact Hw1
    isplitl [Hs1]; · iexact Hs1
    isplitl [Hh2 Hf1]
    · iapply (fee_intro (F := F) true c g)
      isplitl [Hf1]; · iexact Hf1
      iexact Hh2
    isplitl [Hr1] <;> iassumption
  isplitl [Hw2 Hh1 Hs2 Hf2 Hr2 Hc2]
  · isplitl [Hw2]; · iexact Hw2
    isplitl [Hs2]; · iexact Hs2
    isplitl [Hh1 Hf2]
    · iapply (fee_intro (F := F) false c g)
      isplitl [Hf2]; · iexact Hf2
      iexact Hh1
    isplitl [Hr2] <;> iassumption
  iexact HO

/-- A landed slot stands still while the copy reads a send buffer. -/
theorem back_src (c : Dev nD) (e : Bool) {g : ℕ} (h : g < 16) (w : S64x1024.Idx → Elt F .bf16) :
    iprop(slot c (dst e (g + 2)) fullShare w ∗ sendPay m e g c) ⊢ iprop(anySlot (F := F) c (dst e (g + 2)) ∗ anySlot (F := F) c (src e g)) := by
  unfold sendPay
  rw [if_pos h]
  iintro ⟨H1, H2⟩
  isplitl [H1]
  · iapply (any_intro c _ w); iexact H1
  · iapply (any_intro c _ _); iexact H2

/-- A landed slot passed on: the half kept, and the half the copy gives back. -/
theorem back_dst (c : Dev nD) (e : Bool) {g : ℕ} (h : 16 ≤ g) :
    iprop((slot c (dst e (g + 2)) fullShare.right (sq (inbox m e c g)) ∗ anySlot (F := F) c (src e g)) ∗ sendPay m e g c)
      ⊢ iprop(anySlot (F := F) c (dst e (g + 2)) ∗ anySlot (F := F) c (src e g)) := by
  unfold sendPay
  rw [if_neg (by omega), msg_fwd m e c h]
  iintro ⟨⟨H1, H3⟩, H2⟩
  isplitl [H1 H2]
  · iapply (any_intro c _ (sq (inbox m e c g)))
    iapply (slot_join c (sq (inbox m e c g))) $$ [H1 H2]
    isplitl [H2] <;> iassumption
  · iexact H3

theorem run_hop0 (c : Dev nD) (w : Bool → S64x1024.Idx → Elt F .bf16) (k : P (F := F) PUnit) (Q : PUnit → sProp 𝕄) :
    iprop(know m K ∗ Inv c 0 (own m c) w)
      ⊢ iprop((Inv c 1 (own m c) (fun e => sq (inbox m e c 1)) -∗ run c k Q) -∗ run c (hop0 c k) Q) := by
  iintro ⟨#Hkn, HI⟩ Hk
  ihave HI := (Inv_open (F := F) c (by omega) (own m c) w) $$ HI
  unfold Open
  icases HI with ⟨Ha, ⟨Hw1, Hs1, Hf1, Hr1, Hc1⟩, ⟨Hw2, Hs2, Hf2, Hr2, Hc2⟩, %W, HO⟩
  unfold hop0
  iapply (run_sendOwn m K c true (Owed c (0 + 1) + due c false 0) W) $$ [Ha Hs1 Hf1 HO]
  · isplitr; · iexact Hkn
    isplitl [Ha]; · iexact Ha
    isplitl [Hs1]; · iexact Hs1
    isplitl [Hf1] <;> iassumption
  iintro ⟨Ha, Hcs1, HO⟩
  iapply (run_sendOwn m K c false (Owed c (0 + 1)) W) $$ [Ha Hs2 Hf2 HO]
  · isplitr; · iexact Hkn
    isplitl [Ha]; · iexact Ha
    isplitl [Hs2]; · iexact Hs2
    isplitl [Hf2] <;> iassumption
  iintro ⟨Ha, Hcs2, HO⟩
  iapply (run_waits_both m K c (g := 0) (by omega) (own m c) (fun e => src e 0) (fun e => srcExact e 0) (fun e => N_src e 0)
    (fun e => slot c (dst e (0 + 2)) fullShare (w e)) (fun e => back_src m c e (by omega) (w e)) W k Q) $$ [Ha HO Hw1 Hcs1 Hr1 Hc1 Hw2 Hcs2 Hr2 Hc2]
  · isplitr; · iexact Hkn
    isplitl [Ha HO]; · isplitl [Ha] <;> iassumption
    isplitl [Hw1 Hcs1 Hr1 Hc1]
    · isplitl [Hw1]; · iexact Hw1
      isplitl [Hcs1]; · iexact Hcs1
      isplitl [Hr1] <;> iassumption
    isplitl [Hw2]; · iexact Hw2
    isplitl [Hcs2]; · iexact Hcs2
    isplitl [Hr2] <;> iassumption
  iexact Hk

theorem run_hopAdd (c : Dev nD) {g : ℕ} (h1 : 1 ≤ g) (h : g < 15) (k : P (F := F) PUnit) (Q : PUnit → sProp 𝕄) :
    iprop(know m K ∗ Inv c g (own m c) (fun e => sq (inbox m e c g)))
      ⊢ iprop((Inv c (g + 1) (own m c) (fun e => sq (inbox m e c (g + 1))) -∗ run c k Q) -∗ run c (hopAdd c g k) Q) := by
  iintro ⟨#Hkn, HI⟩ Hk
  ihave HI := (Inv_open (F := F) c (by omega) (own m c) _) $$ HI
  unfold Open
  icases HI with ⟨Ha, ⟨Hw1, Hs1, Hf1, Hr1, Hc1⟩, ⟨Hw2, Hs2, Hf2, Hr2, Hc2⟩, %W, HO⟩
  unfold hopAdd
  iapply (run_sendSum m K c true (g := g) h1 (by omega) (Owed c (g + 1) + due c false g) W) $$ [Ha Hw1 Hs1 Hf1 HO]
  · isplitr; · iexact Hkn
    isplitl [Ha]; · iexact Ha
    isplitl [Hw1]; · iexact Hw1
    isplitl [Hs1]; · iexact Hs1
    isplitl [Hf1] <;> iassumption
  iintro ⟨Ha, Hw1, Hcs1, HO⟩
  iapply (run_sendSum m K c false (g := g) h1 (by omega) (Owed c (g + 1)) W) $$ [Ha Hw2 Hs2 Hf2 HO]
  · isplitr; · iexact Hkn
    isplitl [Ha]; · iexact Ha
    isplitl [Hw2]; · iexact Hw2
    isplitl [Hs2]; · iexact Hs2
    isplitl [Hf2] <;> iassumption
  iintro ⟨Ha, Hw2, Hcs2, HO⟩
  iapply (run_waits_both m K c (g := g) (by omega) (own m c) (fun e => src e g) (fun e => srcExact e g) (fun e => N_src e g)
    (fun e => slot c (dst e (g + 2)) fullShare (sq (inbox m e c g))) (fun e => back_src m c e (by omega) _) W k Q) $$ [Ha HO Hw1 Hcs1 Hr1 Hc1 Hw2 Hcs2 Hr2 Hc2]
  · isplitr; · iexact Hkn
    isplitl [Ha HO]; · isplitl [Ha] <;> iassumption
    isplitl [Hw1 Hcs1 Hr1 Hc1]
    · isplitl [Hw1]; · iexact Hw1
      isplitl [Hcs1]; · iexact Hcs1
      isplitl [Hr1] <;> iassumption
    isplitl [Hw2]; · iexact Hw2
    isplitl [Hcs2]; · iexact Hcs2
    isplitl [Hr2] <;> iassumption
  iexact Hk

theorem run_hop15 (c : Dev nD) (k : P (F := F) PUnit) (Q : PUnit → sProp 𝕄) :
    iprop(know m K ∗ Inv c 15 (own m c) (fun e => sq (inbox m e c 15)))
      ⊢ iprop((Inv c 16 (accAt m c 1) (fun e => sq (inbox m e c 16)) -∗ run c k Q) -∗ run c (hop15 c k) Q) := by
  iintro ⟨#Hkn, HI⟩ Hk
  ihave HI := (Inv_open (F := F) c (by omega) (own m c) _) $$ HI
  unfold Open
  icases HI with ⟨Ha, ⟨Hw1, Hs1, Hf1, Hr1, Hc1⟩, ⟨Hw2, Hs2, Hf2, Hr2, Hc2⟩, %W, HO⟩
  unfold hop15
  iapply (run_sendSum m K c true (g := 15) (by omega) (by omega) (Owed c (15 + 1) + due c false 15) W) $$ [Ha Hw1 Hs1 Hf1 HO]
  · isplitr; · iexact Hkn
    isplitl [Ha]; · iexact Ha
    isplitl [Hw1]; · iexact Hw1
    isplitl [Hs1]; · iexact Hs1
    isplitl [Hf1] <;> iassumption
  iintro ⟨Ha, Hw1, Hcs1, HO⟩
  iapply (run_sendSum m K c false (g := 15) (by omega) (by omega) (Owed c (15 + 1)) W) $$ [Ha Hw2 Hs2 Hf2 HO]
  · isplitr; · iexact Hkn
    isplitl [Ha]; · iexact Ha
    isplitl [Hw2]; · iexact Hw2
    isplitl [Hs2]; · iexact Hs2
    isplitl [Hf2] <;> iassumption
  iintro ⟨Ha, Hw2, Hcs2, HO⟩
  iapply (run_keepSum m c true (own m c) fullShare rfl) $$ [Ha Hw1]
  · isplitl [Ha] <;> iassumption
  iintro ⟨Ha, Hw1⟩
  iapply (run_keepSum m c false (wr true c 15 (own m c) (kept m true c 15)) fullShare (rd_wr c _ _)) $$ [Ha Hw2]
  · isplitl [Ha] <;> iassumption
  iintro ⟨Ha, Hw2⟩
  iapply (run_waits_both m K c (g := 15) (by omega) (accAt m c 1) (fun e => src e 15) (fun e => srcExact e 15) (fun e => N_src e 15)
    (fun e => slot c (dst e (15 + 2)) fullShare (sq (inbox m e c 15))) (fun e => back_src m c e (by omega) _) W k Q) $$ [Ha HO Hw1 Hcs1 Hr1 Hc1 Hw2 Hcs2 Hr2 Hc2]
  · isplitr; · iexact Hkn
    isplitl [Ha HO]
    · isplitl [Ha]; · iexact Ha
      iexact HO
    isplitl [Hw1 Hcs1 Hr1 Hc1]
    · isplitl [Hw1]; · iexact Hw1
      isplitl [Hcs1]; · iexact Hcs1
      isplitl [Hr1] <;> iassumption
    isplitl [Hw2]; · iexact Hw2
    isplitl [Hcs2]; · iexact Hcs2
    isplitl [Hr2] <;> iassumption
  iexact Hk

theorem run_hopFwd (c : Dev nD) {n : ℕ} (h1 : 1 ≤ n) (h : n < 15) (k : P (F := F) PUnit) (Q : PUnit → sProp 𝕄) :
    iprop(know m K ∗ Inv c (15 + n) (accAt m c n) (fun e => sq (inbox m e c (15 + n))))
      ⊢ iprop((Inv c (15 + n + 1) (accAt m c (n + 1)) (fun e => sq (inbox m e c (15 + n + 1))) -∗ run c k Q) -∗ run c (hopFwd c (15 + n) k) Q) := by
  have hg : 16 ≤ 15 + n := by omega
  have hg' : 15 + n < 30 := by omega
  have hA : accAt m c (n + 1) = wr false c (15 + n) (wr true c (15 + n) (accAt m c n) (kept m true c (15 + n))) (kept m false c (15 + n)) := rfl
  generalize 15 + n = g at hg hg' hA ⊢
  iintro ⟨#Hkn, HI⟩ Hk
  ihave HI := (Inv_open (F := F) c hg' (accAt m c n) _) $$ HI
  unfold Open
  icases HI with ⟨Ha, ⟨Hw1, Hs1, Hf1, Hr1, Hc1⟩, ⟨Hw2, Hs2, Hf2, Hr2, Hc2⟩, %W, HO⟩
  unfold hopFwd
  iapply (run_sendFwd m K c true (g := g) hg hg' (Owed c (g + 1) + due c false g) W) $$ [Hw1 Hf1 HO]
  · isplitr; · iexact Hkn
    isplitl [Hw1]; · iexact Hw1
    isplitl [Hf1] <;> iassumption
  iintro ⟨Hw1, Hcs1, HO⟩
  iapply (run_sendFwd m K c false (g := g) hg hg' (Owed c (g + 1)) W) $$ [Hw2 Hf2 HO]
  · isplitr; · iexact Hkn
    isplitl [Hw2]; · iexact Hw2
    isplitl [Hf2] <;> iassumption
  iintro ⟨Hw2, Hcs2, HO⟩
  iapply (run_keep m c true g (accAt m c n) fullShare.right (by omega)) $$ [Ha Hw1]
  · isplitl [Ha] <;> iassumption
  iintro ⟨Ha, Hw1⟩
  iapply (run_keep m c false g _ fullShare.right (by omega)) $$ [Ha Hw2]
  · isplitl [Ha] <;> iassumption
  iintro ⟨Ha, Hw2⟩
  rw [← hA]
  iapply (run_waits_both m K c (g := g) hg' (accAt m c (n + 1)) (fun e => dst e (g + 2)) (fun e => dstExact e (g + 2)) (fun e => N_dst e (g + 2))
    (fun e => iprop(slot c (dst e (g + 2)) fullShare.right (sq (inbox m e c g)) ∗ anySlot (F := F) c (src e g)))
    (fun e => back_dst m c e hg) W k Q) $$ [Ha HO Hw1 Hs1 Hcs1 Hr1 Hc1 Hw2 Hs2 Hcs2 Hr2 Hc2]
  · isplitr; · iexact Hkn
    isplitl [Ha HO]; · isplitl [Ha] <;> iassumption
    isplitl [Hw1 Hs1 Hcs1 Hr1 Hc1]
    · isplitl [Hw1 Hs1]; · isplitl [Hw1] <;> iassumption
      isplitl [Hcs1]; · iexact Hcs1
      isplitl [Hr1] <;> iassumption
    isplitl [Hw2 Hs2]; · isplitl [Hw2] <;> iassumption
    isplitl [Hcs2]; · iexact Hcs2
    isplitl [Hr2] <;> iassumption
  iexact Hk

/-- A run of hops is an induction over them. -/
theorem run_steps (c : Dev nD) (Q : ℕ → P (F := F) PUnit → P (F := F) PUnit) (I : ℕ → sProp 𝕄) (hi : ℕ) (R : PUnit → sProp 𝕄)
    (hQ : ∀ g k, g < hi → iprop(know m K ∗ I g) ⊢ iprop((I (g + 1) -∗ run c k R) -∗ run c (Q g k) R)) :
    ∀ n g k, g + n ≤ hi → iprop(know m K ∗ I g) ⊢ iprop((I (g + n) -∗ run c k R) -∗ run c (steps Q n g k) R)
  | 0, g, k, h => by
    iintro ⟨-, HI⟩ Hk
    iapply Hk $$ HI
  | n + 1, g, k, h => by
    have ih := run_steps c Q I hi R hQ n (g + 1) k (by omega)
    rw [show g + 1 + n = g + (n + 1) by omega] at ih
    rw [show steps Q (n + 1) g k = Q g (steps Q n (g + 1) k) from rfl]
    iintro ⟨#Hkn, HI⟩ Hk
    iapply (hQ g (steps Q n (g + 1) k) (by omega)) $$ [HI]
    · isplitr; · iexact Hkn
      iexact HI
    iintro HI
    iapply ih $$ [HI]
    · isplitr; · iexact Hkn
      iexact HI
    iexact Hk

/-- All the hops. -/
theorem run_hops (c : Dev nD) (w : Bool → S64x1024.Idx → Elt F .bf16) (k : P (F := F) PUnit) (Q : PUnit → sProp 𝕄) :
    iprop(know m K ∗ Inv c 0 (own m c) w)
      ⊢ iprop((Inv c 30 (accAt m c 16) (fun e => sq (inbox m e c 30)) -∗ run c k Q) -∗ run c (hops c k) Q) := by
  iintro ⟨#Hkn, HI⟩ Hk
  unfold hops
  iapply (run_hop0 m K c w) $$ [HI]
  · isplitr; · iexact Hkn
    iexact HI
  iintro HI
  iapply (run_steps m K c (hopAdd c) (fun g => iprop(⌜1 ≤ g⌝ ∗ Inv c g (own m c) (fun e => sq (inbox m e c g)))) 15 Q
    (fun g k hg => by
      iintro ⟨#Hkn, %h1, HI⟩ Hk
      iapply (run_hopAdd m K c h1 hg k Q) $$ [HI]
      · isplitr; · iexact Hkn
        iexact HI
      iintro HI
      iapply Hk
      isplitr; · ipureintro; omega
      iexact HI) 14 1 _ (by omega)) $$ [HI]
  · isplitr; · iexact Hkn
    isplitr; · ipureintro; omega
    iexact HI
  iintro ⟨-, HI⟩
  iapply (run_hop15 m K c) $$ [HI]
  · isplitr; · iexact Hkn
    iexact HI
  iintro HI
  iapply (run_steps m K c (hopFwd c) (fun g => iprop(∃ n : ℕ, ⌜1 ≤ n ∧ g = 15 + n⌝ ∗ Inv c g (accAt m c n) (fun e => sq (inbox m e c g)))) 30 Q
    (fun g k hg => by
      iintro ⟨#Hkn, %n, ⟨%h1, %h2⟩, HI⟩ Hk
      subst h2
      iapply (run_hopFwd m K c h1 (by omega) k Q) $$ [HI]
      · isplitr; · iexact Hkn
        iexact HI
      iintro HI
      iapply Hk
      iexists (n + 1)
      isplitr; · ipureintro; omega
      iexact HI) 14 16 _ (by omega)) $$ [HI]
  · isplitr; · iexact Hkn
    iexists 1
    isplitr; · ipureintro; omega
    iexact HI
  iintro ⟨%n, ⟨%h1, %h2⟩, HI⟩
  obtain rfl : n = 15 := by omega
  unfold Inv St
  icases HI with ⟨Ha, ⟨Hw1, H1⟩, ⟨Hw2, H2⟩, HO⟩
  iapply (run_keep m c true 30 (accAt m c 15) fullShare (by omega)) $$ [Ha Hw1]
  · isplitl [Ha] <;> iassumption
  iintro ⟨Ha, Hw1⟩
  iapply (run_keep m c false 30 _ fullShare (by omega)) $$ [Ha Hw2]
  · isplitl [Ha] <;> iassumption
  iintro ⟨Ha, Hw2⟩
  iapply Hk
  isplitl [Ha]; · iexact Ha
  isplitl [Hw1 H1]; · isplitl [Hw1] <;> iassumption
  isplitl [Hw2 H2]; · isplitl [Hw2] <;> iassumption
  iexact HO

end Cert.KernelIdeal.Hand
-- ==== Proof.Slots.lean ====
/- The streams' buffers, whole and slot by slot. -/
module

public import proofs.«01_k».proof.Proof.Hops

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- The elements of slot `s` of a receive buffer, and of a send buffer. -/
theorem rRect_disj {s t : Fin 3} (h : s ≠ t) : Disjoint (rRect s).set (rRect t).set :=
  Rect.unit_disjoint (0 : Fin 3) (by
    show s.val + 1 ≤ t.val ∨ t.val + 1 ≤ s.val
    have := fun h' => h (Fin.ext h'); omega)
theorem sRect_disj {s t : Fin 2} (h : s ≠ t) : Disjoint (sRect s).set (sRect t).set :=
  Rect.unit_disjoint (0 : Fin 3) (by
    show s.val + 1 ≤ t.val ∨ t.val + 1 ≤ s.val
    have := fun h' => h (Fin.ext h'); omega)
theorem rRect_mem (i : S3x64x1024.Idx) : i ∈ (rRect (i 0)).set := by
  refine Rect.mem_set_unit.mpr fun a => ?_
  have := (i a).isLt
  fin_cases a
  · exact ⟨Nat.le_refl _, Nat.lt_succ_self _⟩
  · exact ⟨Nat.zero_le _, by simpa using this⟩
  · exact ⟨Nat.zero_le _, by simpa using this⟩
theorem sRect_mem (i : S2x64x1024.Idx) : i ∈ (sRect (i 0)).set := by
  refine Rect.mem_set_unit.mpr fun a => ?_
  have := (i a).isLt
  fin_cases a
  · exact ⟨Nat.le_refl _, Nat.lt_succ_self _⟩
  · exact ⟨Nat.zero_le _, by simpa using this⟩
  · exact ⟨Nat.zero_le _, by simpa using this⟩

/-- A whole buffer held at some contents. -/
abbrev anyBuf (c : Dev nD) (b : Ref sig .tc) : sProp 𝕄 :=
  iprop(∃ f : Buf (Elt F) ((c : Thread nD τ).loc b), ((c : Thread nD τ).loc b) ↦{fullShare} f)

/-- A buffer cut along a family of memrefs that partition it, and put together. -/
theorem buf_slots {T : Type} [Fintype T] [DecidableEq T] (c : Dev nD) (b : Ref sig .tc) (a : T → Memref sig .tc .vmem S64x1024 .bf16)
    (R : T → Finset (Idx ((c : Thread nD τ).loc b))) (hd : ∀ s t, s ≠ t → Disjoint (R s) (R t)) (hu : Finset.univ.biUnion R = Finset.univ)
    (ho : ∀ s, (anySlot (F := F) c (a s) : sProp 𝕄) = iprop(∃ f : Buf (Elt F) ((c : Thread nD τ).loc b), ((c : Thread nD τ).loc b) ↦[R s]{fullShare} f)) :
    (anyBuf (F := F) c b ⊢ bigSep Finset.univ fun s => (anySlot (F := F) c (a s) : sProp 𝕄))
      ∧ ((bigSep Finset.univ fun s => (anySlot (F := F) c (a s) : sProp 𝕄)) ⊢ anyBuf (F := F) c b) := by
  have hd' : ∀ s ∈ (Finset.univ : Finset T), ∀ t ∈ (Finset.univ : Finset T), s ≠ t → Disjoint (R s) (R t) := fun s _ t _ => hd s t
  rw [bigSep_congr fun s _ => ho s]
  refine ⟨?_, ?_⟩
  · iintro ⟨%f, H⟩
    have h1 : (((c : Thread nD τ).loc b) ↦{fullShare} f : sProp 𝕄) ⊢ bigSep Finset.univ fun s => (iprop(∃ f : Buf (Elt F) ((c : Thread nD τ).loc b), ((c : Thread nD τ).loc b) ↦[R s]{fullShare} f) : sProp 𝕄) := by
      rw [show (((c : Thread nD τ).loc b) ↦{fullShare} f : sProp 𝕄) = ((c : Thread nD τ).loc b) ↦[Finset.univ.biUnion R]{fullShare} f by rw [hu],
        pointsTo_biUnion _ _ hd']
      exact bigSep_mono fun s _ => (show (((c : Thread nD τ).loc b) ↦[R s]{fullShare} f : sProp 𝕄) ⊢ iprop(∃ f : Buf (Elt F) ((c : Thread nD τ).loc b), ((c : Thread nD τ).loc b) ↦[R s]{fullShare} f) from by iintro H; iexists f; iexact H)
    iapply h1; iexact H
  · iintro H
    ihave H := (BI.bigSep_exists_pi Finset.univ (fun (s : T) (f : Buf (Elt F) ((c : Thread nD τ).loc b)) => (((c : Thread nD τ).loc b) ↦[R s]{fullShare} f : sProp 𝕄))) $$ H
    icases H with ⟨%fs, H⟩
    ihave H := (pointsTo_biUnion_join (q := fullShare) Finset.univ R fs (fun _ => Classical.arbitrary _) hd') $$ H
    icases H with ⟨%g, -, H⟩
    rw [hu]
    iexists g; iexact H

omit [FloatOps F] in
theorem anySlot_eq (c : Dev nD) (a : Memref sig .tc .vmem S64x1024 .bf16) :
    (anySlot (F := F) c a : sProp 𝕄) = iprop(∃ f : Buf (Elt F) (a.view.loc (c : Thread nD τ)), (a.view.loc (c : Thread nD τ)) ↦[a.view.set]{fullShare} f) := by
  have h1 : (anySlot (F := F) c a : sProp 𝕄) ⊢ iprop(∃ f : Buf (Elt F) (a.view.loc (c : Thread nD τ)), (a.view.loc (c : Thread nD τ)) ↦[a.view.set]{fullShare} f) := by
    unfold anySlot slot owns
    iintro ⟨%w, %f, -, H⟩; iexists f; iexact H
  have h2 : iprop(∃ f : Buf (Elt F) (a.view.loc (c : Thread nD τ)), (a.view.loc (c : Thread nD τ)) ↦[a.view.set]{fullShare} f) ⊢ (anySlot (F := F) c a : sProp 𝕄) := by
    unfold anySlot slot owns
    iintro ⟨%f, H⟩; iexists (a.view.read (Elt F) f); iexists f
    isplitr; · (ipureintro; rfl)
    iexact H
  exact BI.equiv_iff.mp ⟨h1, h2⟩

abbrev rBuf (e : Bool) : Ref sig .tc := match e with | true => cc0_scratch2 | false => cc0_scratch3
abbrev sBuf (e : Bool) : Ref sig .tc := match e with | true => cc0_scratch0 | false => cc0_scratch1

/-- A receive buffer is its three slots, -/
theorem rBuf_slots (c : Dev nD) (e : Bool) :
    (anyBuf (F := F) c (rBuf e) ⊢ iprop(anySlot (F := F) c (dst e 0) ∗ anySlot (F := F) c (dst e 1) ∗ anySlot (F := F) c (dst e 2)))
      ∧ (iprop(anySlot (F := F) c (dst e 0) ∗ anySlot (F := F) c (dst e 1) ∗ anySlot (F := F) c (dst e 2)) ⊢ anyBuf (F := F) c (rBuf e)) := by
  have h3 : (bigSep Finset.univ fun s : Fin 3 => (anySlot (F := F) c (rSlot (rM e) s) : sProp 𝕄))
      = iprop(anySlot (F := F) c (dst e 0) ∗ anySlot (F := F) c (dst e 1) ∗ anySlot (F := F) c (dst e 2)) :=
    bigSep_univ_eq_bigSepL [0, 1, 2] (by decide) (by decide) _
  rw [← h3]
  cases e
  · exact buf_slots c cc0_scratch3 (fun s => rSlot (Memref.whole cc0_scratch3) s) (fun s : Fin 3 => (rRect s).set) (fun _ _ => rRect_disj)
      (Finset.eq_univ_of_forall fun i => Finset.mem_biUnion.mpr ⟨i 0, Finset.mem_univ _, rRect_mem i⟩)
      (fun s => (anySlot_eq c _).trans (by rw [set_rSlot, View.set_slice_whole]))
  · exact buf_slots c cc0_scratch2 (fun s => rSlot (Memref.whole cc0_scratch2) s) (fun s : Fin 3 => (rRect s).set) (fun _ _ => rRect_disj)
      (Finset.eq_univ_of_forall fun i => Finset.mem_biUnion.mpr ⟨i 0, Finset.mem_univ _, rRect_mem i⟩)
      (fun s => (anySlot_eq c _).trans (by rw [set_rSlot, View.set_slice_whole]))

/-- and a send buffer its two. -/
theorem sBuf_slots (c : Dev nD) (e : Bool) :
    (anyBuf (F := F) c (sBuf e) ⊢ iprop(anySlot (F := F) c (src e 0) ∗ anySlot (F := F) c (src e 1)))
      ∧ (iprop(anySlot (F := F) c (src e 0) ∗ anySlot (F := F) c (src e 1)) ⊢ anyBuf (F := F) c (sBuf e)) := by
  have h2 : (bigSep Finset.univ fun s : Fin 2 => (anySlot (F := F) c (sSlot (sM e) s) : sProp 𝕄))
      = iprop(anySlot (F := F) c (src e 0) ∗ anySlot (F := F) c (src e 1)) :=
    bigSep_univ_eq_bigSepL [0, 1] (by decide) (by decide) _
  rw [← h2]
  cases e
  · exact buf_slots c cc0_scratch1 (fun s => sSlot (Memref.whole cc0_scratch1) s) (fun s : Fin 2 => (sRect s).set) (fun _ _ => sRect_disj)
      (Finset.eq_univ_of_forall fun i => Finset.mem_biUnion.mpr ⟨i 0, Finset.mem_univ _, sRect_mem i⟩)
      (fun s => (anySlot_eq c _).trans (by rw [set_sSlot, View.set_slice_whole]))
  · exact buf_slots c cc0_scratch0 (fun s => sSlot (Memref.whole cc0_scratch0) s) (fun s : Fin 2 => (sRect s).set) (fun _ _ => sRect_disj)
      (Finset.eq_univ_of_forall fun i => Finset.mem_biUnion.mpr ⟨i 0, Finset.mem_univ _, sRect_mem i⟩)
      (fun s => (anySlot_eq c _).trans (by rw [set_sSlot, View.set_slice_whole]))

end Cert.KernelIdeal.Hand
-- ==== Proof.Body.lean ====
/- The body of one device: the handshake, the device's own part, the hops, the end; and its cells closed. -/
module

public import proofs.«01_k».proof.Proof.Slots

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Dev nD × Cl → ℕ)

/-! ## A stream's holdings at the start and at the end -/

/-- A stream's positions, at the round of each cell that hop `g`, `g + 1`, `g + 2` come to. -/
def posAt (e : Bool) (c : Dev nD) (g : ℕ) : sProp 𝕄 :=
  iprop(atPos ER (sCell c e g) (g / 2) ∅ 0 ∗ atPos ER (sCell c e (g + 1)) ((g + 1) / 2) ∅ 0
    ∗ atPos ER (rCell c e g) (g / 3) ∅ 0 ∗ atPos ER (rCell c e (g + 1)) ((g + 1) / 3) ∅ 0 ∗ atPos ER (rCell c e (g + 2)) ((g + 2) / 3) ∅ 0)

theorem St_init (e : Bool) (c : Dev nD) (w : S64x1024.Idx → Elt F .bf16) :
    iprop(know m K ∗ slot c (dst e 2) fullShare w ∗ anySlot (F := F) c (dst e 1) ∗ permit (F := F) e 0 c ∗ anySlot (F := F) c (src e 0) ∗ anySlot (F := F) c (src e 1)
      ∗ posAt (F := F) e c 0 ∗ ahead (F := F) e c 0) ⊢ St e c 0 w := by
  unfold St posAt
  rw [if_pos (by omega)]
  iintro ⟨#Hkn, H1, H2, H3, H4, H5, ⟨P1, P2, P3, P4, P5⟩, H6⟩
  isplitl [H1]; · iexact H1
  isplitl [H2]; · iexact H2
  isplitl [H3]; · iexact H3
  isplitl [H4]; · iexact H4
  isplitl [H5]; · iexact H5
  isplitl [P1]; · iexact P1
  isplitl [P2]; · iexact P2
  isplitr; · iapply (know_reached m K c (sC e 0)); iexact Hkn
  isplitr; · iapply (know_reached m K c (sC e 1)); iexact Hkn
  isplitl [P3]; · iexact P3
  isplitl [P4]; · iexact P4
  isplitl [P5]; · iexact P5
  isplitr; · iapply (know_reached m K c (rC e 1)); iexact Hkn
  isplitr; · iapply (know_reached m K c (rC e 2)); iexact Hkn
  iexact H6

theorem cell_done (c : Dev nD) (k : Cl) (r : ℕ) (h : (match k with | none => 1 | some (_, .inl _) => 15 | some (_, .inr _) => 10) ≤ r) :
    iprop(know m K ∗ atPos ER (kcell (c, k)) r ∅ 0) ⊢ |={Set.univ}=> (semVal (kcell (c, k)) 0 : sProp 𝕄) := by
  iintro ⟨#Hkn, Hat⟩
  imod (Rounds.cell_close ER (Rd m) (Set.mem_univ (K (c, k))) (fun h => h) (R := r)
    (fun r' hr => by rw [duties_k]; exact dut_last k r' (le_trans h hr))) $$ [Hat] with Hz
  · isplitr; · iapply (know_inv m K c k); iexact Hkn
    iexact Hat
  imodintro
  iexact Hz

/-- A stream's own semaphores, at zero. -/
def zeros (e : Bool) (c : Dev nD) : sProp 𝕄 :=
  iprop(semVal (sCell c e 0) 0 ∗ semVal (sCell c e 1) 0 ∗ semVal (rCell c e 0) 0 ∗ semVal (rCell c e 1) 0 ∗ semVal (rCell c e 2) 0)

theorem St_done (e : Bool) (c : Dev nD) (w : S64x1024.Idx → Elt F .bf16) :
    iprop(know m K ∗ St e c 30 w) ⊢ |={Set.univ}=> iprop(anyBuf (F := F) c (rBuf e) ∗ anyBuf (F := F) c (sBuf e) ∗ zeros (F := F) e c) := by
  unfold St zeros
  rw [if_neg (by omega)]
  iintro ⟨#Hkn, H1, H2, H3, H4, H5, P1, P2, -, -, P3, P4, P5, -⟩
  imod (cell_done m K c (sC e 0) 15 (Nat.le_refl _)) $$ [P1] with Z1
  · isplitr; · iexact Hkn
    iexact P1
  imod (cell_done m K c (sC e 1) 15 (Nat.le_refl _)) $$ [P2] with Z2
  · isplitr; · iexact Hkn
    iexact P2
  imod (cell_done m K c (rC e 0) 10 (Nat.le_refl _)) $$ [P3] with Z3
  · isplitr; · iexact Hkn
    iexact P3
  imod (cell_done m K c (rC e 1) 10 (Nat.le_refl _)) $$ [P4] with Z4
  · isplitr; · iexact Hkn
    iexact P4
  imod (cell_done m K c (rC e 2) 10 (Nat.le_refl _)) $$ [P5] with Z5
  · isplitr; · iexact Hkn
    iexact P5
  imodintro
  isplitl [H1 H2 H3]
  · iapply (rBuf_slots (F := F) c e).2
    isplitl [H3]; · iexact H3
    isplitl [H2]; · iexact H2
    iexists w; iexact H1
  isplitl [H4 H5]
  · iapply (sBuf_slots (F := F) c e).2
    isplitl [H4]; · iexact H4
    iexact H5
  isplitl [Z1]; · iexact Z1
  isplitl [Z2]; · iexact Z2
  isplitl [Z3]; · iexact Z3
  isplitl [Z4] <;> iassumption

/-! ## The device's own part, the hops and the end -/

/-- A staging buffer, held whole. -/
abbrev at' (c : Dev nD) (b : Ref sig .tc) (f : b.ty.Contents (Elt F)) : sProp 𝕄 := ((c : Thread nD τ).loc b) ↦{fullShare} f

/-- The staged operands. -/
def ops (c : Dev nD) : sProp 𝕄 :=
  iprop(at' c cc0_stg0_0 (stgX m c) ∗ at' c cc0_stg1_0 (stgRt m c) ∗ at' c cc0_stg2_0 (stgIx m c) ∗ at' c cc0_stg3_0 (stgW m c) ∗ at' c cc0_stg4_0 (stgSh m c))

theorem hz2 : (![0, 0] : Fin 2 → Nat) = fun _ => 0 := funext fun a => by fin_cases a <;> rfl

theorem read_x (f : Vec F S2048x512 .bf16) : xM.view.readAt (Elt F) (Rect.unit (s := S2048x512) ![0, 0] S2048x512.size inb_S2048x512_S2048x512_0_0).toLoadRect f = f :=
  Memref.readAt_unit_zero (Elt F) cc0_stg0_0 hz2 _ f
theorem read_rt (f : Vec F S512x64 .bf16) : rtM.view.readAt (Elt F) (Rect.unit (s := S512x64) ![0, 0] S512x64.size inb_S512x64_S512x64_0_0).toLoadRect f = f :=
  Memref.readAt_unit_zero (Elt F) cc0_stg1_0 hz2 _ f
theorem read_ix (f : Vec F S2048x1 .i32) : ixM.view.readAt (Elt F) (Rect.unit (s := S2048x1) ![0, 0] S2048x1.size inb_S2048x1_S2048x1_0_0).toLoadRect f = f :=
  Memref.readAt_unit_zero (Elt F) cc0_stg2_0 hz2 _ f
theorem read_sh (f : Vec F S512x1024 .bf16) : shM.view.readAt (Elt F) (Rect.unit (s := S512x1024) ![0, 0] S512x1024.size inb_S512x1024_S512x1024_0_0).toLoadRect f = f :=
  Memref.readAt_unit_zero (Elt F) cc0_stg4_0 hz2 _ f
theorem read_acc (f : Vec F S2048x1024 .f32) : accM.view.readAt (Elt F) (Rect.unit (s := S2048x1024) ![0, 0] S2048x1024.size inb_S2048x1024_S2048x1024_0_0).toLoadRect f = f :=
  Memref.readAt_unit_zero (Elt F) cc0_stg5_0 hz2 _ f
theorem write_acc (f v : Vec F S2048x1024 .f32) :
    (accM.access (Rect.unit (s := S2048x1024) ![0, 0] S2048x1024.size inb_S2048x1024_S2048x1024_0_0)).write (Elt F) f v Finset.univ = v :=
  Memref.write_access_unit_zero_univ (Elt F) cc0_stg5_0 hz2 _ f v

theorem run_loadOut (c : Dev nD) (f : Vec F S2048x1024 .f32) (k : Vec F S2048x1024 .f32 → P (F := F) PUnit) (Q : PUnit → sProp 𝕄) :
    acc c f ⊢ iprop((acc c f -∗ run c (k f) Q) -∗ run c (loadOut k) Q) := by
  iintro H Hk
  iapply (wp_load 𝒱₀ (c : Thread nD τ) none Set.univ (m := accM) (Finset.subset_univ _)) $$ H
  rw [read_acc]
  iexact Hk

theorem run_storeOut (c : Dev nD) (f v : Vec F S2048x1024 .f32) (k : P (F := F) PUnit) (Q : PUnit → sProp 𝕄) :
    acc c f ⊢ iprop((acc c v -∗ run c k Q) -∗ run c (storeOut v k) Q) := by
  iintro H Hk
  iapply (wp_store 𝒱₀ (c : Thread nD τ) none Set.univ (m := accM) (r := Rect.unit (s := S2048x1024) ![0, 0] S2048x1024.size inb_S2048x1024_S2048x1024_0_0)
    (Mk := Finset.univ) (Finset.subset_univ _)) $$ H
  rw [write_acc]
  iexact Hk

theorem run_finish (c : Dev nD) (f : Vec F S2048x1024 .f32) (Q : PUnit → sProp 𝕄) :
    iprop(acc c f ∗ at' c cc0_stg4_0 (stgSh m c))
      ⊢ iprop(((acc c (k0_pay1 (k0_pay2 (stgX m c)) f (stgSh m c)) ∗ at' c cc0_stg4_0 (stgSh m c)) -∗ |={Set.univ}=> Q ⟨⟩) -∗ run c (finish (stgX m c)) Q) := by
  iintro ⟨Ha, Hs⟩ Hk
  unfold finish
  iapply (run_loadOut c f) $$ Ha
  iintro Ha
  iapply (wp_load 𝒱₀ (c : Thread nD τ) none Set.univ (m := shM) (Finset.subset_univ _)) $$ Hs
  rw [read_sh]
  iintro Hs
  iapply (run_loadOut c f) $$ Ha
  iintro Ha
  iapply (run_storeOut c f) $$ Ha
  iintro Ha
  unfold run
  rw [wp_ret]
  iapply Hk
  isplitl [Ha] <;> iassumption

theorem run_compute (c : Dev nD) (f : Vec F S2048x1024 .f32) (w : Bool → S64x1024.Idx → Elt F .bf16) (Q : PUnit → sProp 𝕄) :
    iprop(know m K ∗ ops m c ∗ Inv c 0 f w)
      ⊢ iprop(((ops m c ∗ Inv c 30 (outAt m c) (fun e => sq (inbox m e c 30))) -∗ |={Set.univ}=> Q ⟨⟩) -∗ run c (compute c) Q) := by
  unfold ops
  iintro ⟨#Hkn, ⟨Hx, Hrt, Hix, Hw, Hsh⟩, HI⟩ Hk
  unfold compute
  iapply (wp_load 𝒱₀ (c : Thread nD τ) none Set.univ (m := xM) (Finset.subset_univ _)) $$ Hx
  rw [read_x]
  iintro Hx
  iapply (wp_load 𝒱₀ (c : Thread nD τ) none Set.univ (m := rtM) (Finset.subset_univ _)) $$ Hrt
  rw [read_rt]
  iintro Hrt
  iapply (wp_load 𝒱₀ (c : Thread nD τ) none Set.univ (m := ixM) (Finset.subset_univ _)) $$ Hix
  rw [read_ix]
  iintro Hix
  iapply (wp_load 𝒱₀ (c : Thread nD τ) none Set.univ (m := wM) (r := (wRect 0).toLoadRect) (Finset.subset_univ _)) $$ Hw
  iintro Hw
  iapply (wp_load 𝒱₀ (c : Thread nD τ) none Set.univ (m := wM) (r := (wRect 1).toLoadRect) (Finset.subset_univ _)) $$ Hw
  iintro Hw
  iapply (wp_load 𝒱₀ (c : Thread nD τ) none Set.univ (m := wM) (r := (wRect 2).toLoadRect) (Finset.subset_univ _)) $$ Hw
  iintro Hw
  iapply (wp_load 𝒱₀ (c : Thread nD τ) none Set.univ (m := wM) (r := (wRect 3).toLoadRect) (Finset.subset_univ _)) $$ Hw
  iintro Hw
  unfold Inv
  icases HI with ⟨Ha, HI⟩
  iapply (run_loadOut c f) $$ Ha
  iintro Ha
  iapply (run_storeOut c f) $$ Ha
  iintro Ha
  iapply (run_hops m K c w) $$ [Ha HI]
  · isplitr; · iexact Hkn
    unfold Inv
    isplitl [Ha]; · iexact Ha
    iexact HI
  unfold Inv
  iintro ⟨Ha, HI⟩
  iapply (run_finish m c (accAt m c 16)) $$ [Ha Hsh]
  · isplitl [Ha] <;> iassumption
  iintro ⟨Ha, Hsh⟩
  iapply Hk
  isplitr [Ha HI]
  · isplitl [Hx]; · iexact Hx
    isplitl [Hrt]; · iexact Hrt
    isplitl [Hix]; · iexact Hix
    isplitl [Hw] <;> iassumption
  isplitl [Ha]; · iexact Ha
  iexact HI

end Cert.KernelIdeal.Hand
-- ==== Proof.Whole.lean ====
/- The whole body, with the handshake, as the pipeline asks for it. -/
module

public import proofs.«01_k».proof.Proof.Body

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Cl → ℕ)

/-- What device `c` starts from, besides what everyone knows: its positions, its duty tokens and its credit. -/
def lin (c : Dev nD) : sProp 𝕄 :=
  iprop(atPos ER (barCell c) 0 ∅ 0 ∗ dutyTok ER (barCell (nb false c)) 0 true ∗ dutyTok ER (barCell (nb true c)) 0 false ∗ cred (tallyAt (barCell c) 1 2)
    ∗ (posAt (F := F) true c 0 ∗ ahead (F := F) true c 0) ∗ (posAt (F := F) false c 0 ∗ ahead (F := F) false c 0))

/-- The streams' buffers. -/
def bufs (c : Dev nD) : sProp 𝕄 :=
  iprop(anyBuf (F := F) c cc0_scratch0 ∗ anyBuf (F := F) c cc0_scratch1 ∗ anyBuf (F := F) c cc0_scratch2 ∗ anyBuf (F := F) c cc0_scratch3)

/-- All own semaphores and the barrier's, at zero. -/
def allZero (c : Dev nD) : sProp 𝕄 := iprop(semVal (barCell c) 0 ∗ zeros (F := F) true c ∗ zeros (F := F) false c)

theorem run_hand (c : Dev nD) (f : Vec F S2048x1024 .f32) (W : Waits sig ℕ) (Q : PUnit → sProp 𝕄) :
    iprop(know m K ∗ lin (F := F) c ∗ bufs (F := F) c ∗ ops m c ∗ acc c f ∗ owes (c : Thread nD τ) (O₀ c) W)
      ⊢ iprop(((bufs (F := F) c ∗ allZero (F := F) c ∗ ops m c ∗ acc c (outAt m c) ∗ ∃ W, owes (c : Thread nD τ) 0 W) -∗ |={Set.univ}=> Q ⟨⟩) -∗ run c handBody Q) := by
  unfold lin bufs
  iintro ⟨#Hkn, ⟨HatB, HtL, HtR, HcB, ⟨P1, A1⟩, P2, A2⟩, ⟨B0, B1, B2, B3⟩, Hops, Ha, HO⟩ Hk
  ihave B0 := (sBuf_slots (F := F) c true).1 $$ B0
  ihave B1 := (sBuf_slots (F := F) c false).1 $$ B1
  ihave B2 := (rBuf_slots (F := F) c true).1 $$ B2
  ihave B3 := (rBuf_slots (F := F) c false).1 $$ B3
  icases B0 with ⟨S10, S11⟩
  icases B1 with ⟨S20, S21⟩
  icases B2 with ⟨R10, R11, ⟨%w1, R12⟩⟩
  icases B3 with ⟨R20, R21, ⟨%w2, R22⟩⟩
  unfold handBody run
  rw [wp_deviceId]
  rw [dev1_eq c, dev2_eq c]
  iapply (Rounds.wp_signal 𝒱₀ ER (Rd m) (c : Thread nD τ) none (dst := (nb false c : Thread nD τ)) (κ := K (nb false c, none)) (r := 0)
      (d := true) (by rw [show (((nb false c : Dev nD) : Thread nD τ), SemLoc.reg barS) = kcell (nb false c, none) from rfl, duties_k]; exact Finset.mem_univ _)
      ((amount_k m (nb false c) none 0 true).trans (by decide)) 1 (O₁ c) rfl)
    $$ [HO HtL R10]
  · isplitr; · iapply (know_inv m K (nb false c) none); iexact Hkn
    isplitl [HO]; · iexact HO
    isplitl [HtL]; · iexact HtL
    isplitl [R10]
    · iapply (Entails.of_eq (payload_b m (nb false c) true).symm)
      unfold permit
      rw [show nb true (nb false c) = c from nb_nb true c]
      isplitl [R10]; · iexact R10
      iapply (know_reached m K c (rC true 0)); iexact Hkn
    iapply (know_reached m K (nb false c) none); iexact Hkn
  iintro HO
  unfold O₁
  iapply (Rounds.wp_signal 𝒱₀ ER (Rd m) (c : Thread nD τ) none (dst := (nb true c : Thread nD τ)) (κ := K (nb true c, none)) (r := 0)
      (d := false) (by rw [show (((nb true c : Dev nD) : Thread nD τ), SemLoc.reg barS) = kcell (nb true c, none) from rfl, duties_k]; exact Finset.mem_univ _)
      ((amount_k m (nb true c) none 0 false).trans (by decide)) 1 (Owed c 0) rfl)
    $$ [HO HtR R20]
  · isplitr; · iapply (know_inv m K (nb true c) none); iexact Hkn
    isplitl [HO]; · iexact HO
    isplitl [HtR]; · iexact HtR
    isplitl [R20]
    · iapply (Entails.of_eq (payload_b m (nb true c) false).symm)
      unfold permit
      rw [show nb false (nb true c) = c from nb_nb false c]
      isplitl [R20]; · iexact R20
      iapply (know_reached m K c (rC false 0)); iexact Hkn
    iapply (know_reached m K (nb true c) none); iexact Hkn
  iintro HO
  iapply (Rounds.wp_wait_rest_token 𝒱₀ ER (Rd m) (c : Thread nD τ) none (κ := K (c, none))
      (wpE_semWait_eq 𝒱₀ (c : Thread nD τ) none Set.univ) (Set.mem_univ _) 1 (O := Owed c 0) (W := W) (R := 0) (m := 0) (T := ∅)
      (((Nat.zero_add _).trans (by decide)).trans (expect_b m c).symm)) $$ [HcB HO HatB]
  · isplitr; · iapply (know_inv m K c none); iexact Hkn
    isplitl [HcB]; · iexact HcB
    isplitl [HO]; · iexact HO
    isplitr; · iapply (know_mayWait m K c _ (by omega) (by omega)); iexact Hkn
    iexact HatB
  iintro ⟨HO, HatB, -, Hpay⟩
  ihave Hp := (Entails.of_eq (rest_b m c)) $$ Hpay
  icases Hp with ⟨Hp2, Hp1⟩
  iapply (run_compute m K c f (fun e => if e then w1 else w2)) $$ [Hops Ha HO S10 S11 S20 S21 R11 R12 R21 R22 P1 A1 P2 A2 Hp1 Hp2]
  · isplitr; · iexact Hkn
    isplitl [Hops]; · iexact Hops
    unfold Inv
    isplitl [Ha]; · iexact Ha
    isplitl [S10 S11 R11 R12 P1 A1 Hp1]
    · iapply (St_init m K true c w1)
      isplitr; · iexact Hkn
      isplitl [R12]; · iexact R12
      isplitl [R11]; · iexact R11
      isplitl [Hp1]; · iexact Hp1
      isplitl [S10]; · iexact S10
      isplitl [S11]; · iexact S11
      isplitl [P1] <;> iassumption
    isplitl [S20 S21 R21 R22 P2 A2 Hp2]
    · iapply (St_init m K false c w2)
      isplitr; · iexact Hkn
      isplitl [R22]; · iexact R22
      isplitl [R21]; · iexact R21
      isplitl [Hp2]; · iexact Hp2
      isplitl [S20]; · iexact S20
      isplitl [S21]; · iexact S21
      isplitl [P2] <;> iassumption
    iexists _; iexact HO
  unfold Inv
  rw [Owed_end]
  iintro ⟨Hops, Ha, H1, H2, HO⟩
  imod (St_done m K true c _) $$ [H1] with ⟨B2, B0, Z1⟩
  · isplitr; · iexact Hkn
    iexact H1
  imod (St_done m K false c _) $$ [H2] with ⟨B3, B1, Z2⟩
  · isplitr; · iexact Hkn
    iexact H2
  imod (cell_done m K c none 1 (Nat.le_refl _)) $$ [HatB] with Z0
  · isplitr; · iexact Hkn
    iexact HatB
  iapply Hk
  unfold allZero
  isplitl [B0 B1 B2 B3]
  · isplitl [B0]; · iexact B0
    isplitl [B1]; · iexact B1
    isplitl [B2] <;> iassumption
  isplitl [Z0 Z1 Z2]
  · isplitl [Z0]; · iexact Z0
    isplitl [Z1] <;> iassumption
  isplitl [Hops]; · iexact Hops
  isplitl [Ha] <;> iassumption

/-! ## The pipeline's proof data -/

/-- What device `c` starts from. -/
def start (c : Dev nD) : sProp 𝕄 := iprop(∃ K, know m K ∗ lin (F := F) c)

def Φ₀ (c : Dev nD) : sProp 𝕄 := iprop(start m c ∗ bufs (F := F) c)
def Φ₁ (c : Dev nD) : sProp 𝕄 := iprop(bufs (F := F) c ∗ allZero (F := F) c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => stgX m c
    | ⟨1, _⟩ => stgRt m c
    | ⟨2, _⟩ => stgIx m c
    | ⟨3, _⟩ => stgW m c
    | ⟨4, _⟩ => stgSh m c
    | ⟨5, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem stg_intro (c : Dev nD) (b : Ref sig .tc) (X : b.ty.Contents (Elt F)) : at' c b X ⊢ stg (F := F) c b X := by
  iintro H; iexists X; isplitr; · (ipureintro; rfl)
  iexact H

omit [FloatOps F] in
theorem stg_elim (c : Dev nD) (b : Ref sig .tc) {X Y : b.ty.Contents (Elt F)} (h : X = Y) : stg (F := F) c b X ⊢ at' c b Y := by
  iintro ⟨%f, %hf, H⟩; rw [← h, ← hf]; iexact H

def bodyPre' (c : Dev nD) : sProp 𝕄 :=
  iprop(Φ₀ m c ∗ (dats m ρ 0 c).owesAt 0 t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ (F := F) c ∗ (dats m ρ 0 c).owesAt 0 t0_0.succ
    ∗ stg c cc0_stg0_0 (stgX m c) ∗ stg c cc0_stg1_0 (stgRt m c) ∗ stg c cc0_stg2_0 (stgIx m c)
    ∗ stg c cc0_stg3_0 (stgW m c) ∗ stg c cc0_stg4_0 (stgSh m c) ∗ stg c cc0_stg5_0 (outAt m c))

theorem body_run (c : Dev nD) : bodyPre' m ρ c ⊢ run c handBody (fun _ => bodyPost m ρ c) := by
  unfold bodyPre' Φ₀ start
  iintro ⟨⟨⟨%K, Hkn, Hlin⟩, Hbufs⟩, Ho, ⟨%d0, H0⟩, ⟨%d1, H1⟩, ⟨%d2, H2⟩, ⟨%d3, H3⟩, ⟨%d4, H4⟩, ⟨%d5, %f, -, H5⟩⟩
  unfold Dat.owesAt Pipeline.owesWithin
  icases Ho with ⟨%W, %hW, HO⟩
  ihave H0 := (stg_elim c cc0_stg0_0 (Y := stgX m c) (by unfold Dat.before; rw [if_pos (fetch0_0 t0_0)]; rfl)) $$ H0
  ihave H1 := (stg_elim c cc0_stg1_0 (Y := stgRt m c) (by unfold Dat.before; rw [if_pos (fetch0_1 t0_0)]; rfl)) $$ H1
  ihave H2 := (stg_elim c cc0_stg2_0 (Y := stgIx m c) (by unfold Dat.before; rw [if_pos (fetch0_2 t0_0)]; rfl)) $$ H2
  ihave H3 := (stg_elim c cc0_stg3_0 (Y := stgW m c) (by unfold Dat.before; rw [if_pos (fetch0_3 t0_0)]; rfl)) $$ H3
  ihave H4 := (stg_elim c cc0_stg4_0 (Y := stgSh m c) (by unfold Dat.before; rw [if_pos (fetch0_4 t0_0)]; rfl)) $$ H4
  iapply (run_hand m K c f W) $$ [Hkn Hlin Hbufs H0 H1 H2 H3 H4 H5 HO]
  · isplitl [Hkn]; · iexact Hkn
    isplitl [Hlin]; · iexact Hlin
    isplitl [Hbufs]; · iexact Hbufs
    isplitl [H0 H1 H2 H3 H4]
    · unfold ops
      isplitl [H0]; · iexact H0
      isplitl [H1]; · iexact H1
      isplitl [H2]; · iexact H2
      isplitl [H3] <;> iassumption
    isplitl [H5]; · iexact H5
    iexact HO
  unfold ops
  iintro ⟨Hbufs, Hz, ⟨H0, H1, H2, H3, H4⟩, H5, %W', HO⟩
  imodintro
  unfold bodyPost Φ₁
  isplitl [Hbufs Hz]; · isplitl [Hbufs] <;> iassumption
  isplitl [HO]
  · unfold Dat.owesAt Pipeline.owesWithin
    iexists W'
    isplitr; · ipureintro; exact fun _ _ => Or.inl trivial
    iexact HO
  isplitl [H0]; · iapply (stg_intro c cc0_stg0_0); iexact H0
  isplitl [H1]; · iapply (stg_intro c cc0_stg1_0); iexact H1
  isplitl [H2]; · iapply (stg_intro c cc0_stg2_0); iexact H2
  isplitl [H3]; · iapply (stg_intro c cc0_stg3_0); iexact H3
  isplitl [H4]; · iapply (stg_intro c cc0_stg4_0); iexact H4
  iapply (stg_intro c cc0_stg5_0 (outAt m c)); iexact H5

omit [FloatOps F] in
/-- A triple at an equal program, its two conditions restated. -/
theorem restate {α : Type} {P P' : sProp 𝕄} {W W' : sWPT 𝕄 α} {Q Q' : α → sProp 𝕄} (hW : W = W') (h : P ⊢ W Q) (hP : P' ⊢ P) (hQ : ∀ a, Q a ⊢ Q' a) : P' ⊢ W' Q' :=
  hW ▸ hP.trans (h.trans (W.mono hQ))

/-- The program the pipeline calls at the one point. -/
theorem row : (defs₀ (F := F)) Proc.tc cfg0.body (cfg0.bodyArgs t0_0 (cfg0.slots t0_0)) = handBody := by
  unfold defs₀
  rw [Defs.onTc_tc]
  exact body_eq

/-- The library's body obligation on core `c`. -/
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  have h : (wp (M := 𝕄) frame (wpE (defs₀ (F := F)) 𝒱₀ (c : Thread nD τ) none) Set.univ (handBody (F := F)))
      = wp (M := 𝕄) frame (wpE (defs₀ (F := F)) 𝒱₀ (c : Thread nD τ) none) Set.univ (defs₀ (F := F) Proc.tc cfg0.body (cfg0.bodyArgs t0_0 (cfg0.slots t0_0))) :=
    congrArg _ row.symm
  exact restate h (body_run m ρ c) .rfl fun _ => .rfl

end Cert.KernelIdeal.Hand
-- ==== Proof.Launch.lean ====
/- The launch: what the devices are dealt, and the run of the whole program over any float values. -/
module

public import proofs.«01_k».proof.Proof.Whole
public import Idealize.ShloMosaic.Lib.Pipeline.CollectiveSegs

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The streams' cells, in the order of their semaphores. -/
def ownCl : Fin 10 → Cl :=
  ![some (true, .inl 0), some (true, .inl 1), some (false, .inl 0), some (false, .inl 1),
    some (true, .inr 0), some (true, .inr 1), some (true, .inr 2), some (false, .inr 0), some (false, .inr 1), some (false, .inr 2)]
abbrev osem : Fin 10 → SemLoc sig := fun i => csem (ownCl i)

theorem ownSemFacts : Pipeline.OwnSemFacts cfg0.spec osem := by decide +kernel

theorem share_eq (c : Dev nD) (w : Fin cfg0.W) : (dats m ρ 0 c).share w = fullShare := by unfold Dat.share; split <;> rfl

/-! ## The launch element -/

def ringCells : Finset (GSem nD τ sig) := Finset.univ.map ⟨kcell, kcell_inj⟩

/-- A device's duty tokens: its barrier's two, and a send and a receive token a hop and stream. -/
abbrev J : Type := Bool ⊕ (Bool × Fin 30 × Bool)
def tokOf : Dev nD × J → GSem nD τ sig × ℕ × Bool
  | (c, .inl d) => (kcell (c, none), 0, d)
  | (c, .inr (e, h, true)) => (kcell (c, sC e h.val), h.val / 2, false)
  | (c, .inr (e, h, false)) => (kcell (c, rC e h.val), h.val / 3, false)

theorem tokOf_inj : Function.Injective tokOf := by
  rintro ⟨c, j⟩ ⟨c', j'⟩ h
  have hk {a b : Dev nD × Cl} {x y : ℕ × Bool} (h : (kcell a, x) = (kcell b, y)) : a = b ∧ x = y :=
    ⟨kcell_inj (congrArg Prod.fst h), congrArg Prod.snd h⟩
  rcases j with d | ⟨e, n, _ | _⟩ <;> rcases j' with d' | ⟨e', n', _ | _⟩ <;> (obtain ⟨h1, h2⟩ := hk h; injection h1 with h1 h3; subst h1)
  · injection h2 with _ h2; rw [h2]
  · cases h3
  · cases h3
  · cases h3
  · injection h3 with h3; injection h3 with h3 h4; injection h4 with h4
    subst h3
    have h5 : n.val % 3 = n'.val % 3 := congrArg Fin.val h4
    have h6 : n.val / 3 = n'.val / 3 := congrArg Prod.fst h2
    have : n = n' := Fin.ext (by omega)
    rw [this]
  · injection h3 with h3; injection h3 with h3 h4; cases h4
  · cases h3
  · injection h3 with h3; injection h3 with h3 h4; cases h4
  · injection h3 with h3; injection h3 with h3 h4; injection h4 with h4
    subst h3
    have h5 : n.val % 2 = n'.val % 2 := congrArg Fin.val h4
    have h6 : n.val / 2 = n'.val / 2 := congrArg Prod.fst h2
    have : n = n' := Fin.ext (by omega)
    rw [this]

def ringToks : Finset (GSem nD τ sig × ℕ × Bool) := Finset.univ.map ⟨tokOf, tokOf_inj⟩

def u₀ : UU := (initOf (Pipeline.cells cfgs cellOf_inj) (Pipeline.launchToks cfgs cellOf_inj), initOf ringCells ringToks)

/-- A stream's tokens at device `c`, the receive tokens those of device `d`. -/
def strToks (e : Bool) (c d : Dev nD) : sProp 𝕄 :=
  bigSep (Finset.Ico 0 30) fun h => iprop(dutyTok ER (sCell c e h) (h / 2) false ∗ dutyTok ER (rCell d e h) (h / 3) false)

/-- The duty tokens of device `c`'s own cells, -/
def toks (c : Dev nD) : sProp 𝕄 :=
  iprop((dutyTok ER (barCell c) 0 true ∗ dutyTok ER (barCell c) 0 false) ∗ strToks (F := F) true c c ∗ strToks (F := F) false c c)
/-- and those it pays with. -/
def payToks (c : Dev nD) : sProp 𝕄 :=
  iprop((dutyTok ER (barCell (nb false c)) 0 true ∗ dutyTok ER (barCell (nb true c)) 0 false)
    ∗ strToks (F := F) true c (nb true c) ∗ strToks (F := F) false c (nb false c))

omit [FloatOps F] in
theorem bigSep_J (Φ : J → sProp 𝕄) : bigSep Finset.univ Φ
    = iprop((Φ (.inl true) ∗ Φ (.inl false)) ∗ (bigSep (Finset.univ : Finset (Fin 30)) fun h => iprop(Φ (.inr (true, h, true)) ∗ Φ (.inr (true, h, false))))
      ∗ (bigSep (Finset.univ : Finset (Fin 30)) fun h => iprop(Φ (.inr (false, h, true)) ∗ Φ (.inr (false, h, false))))) := by
  have hu : (Finset.univ : Finset J) = (Finset.univ.map ⟨Sum.inl, Sum.inl_injective⟩) ∪ (Finset.univ.map ⟨Sum.inr, Sum.inr_injective⟩) := by
    ext j; rcases j with j | j <;> simp
  have hd : Disjoint ((Finset.univ : Finset Bool).map (⟨Sum.inl, Sum.inl_injective⟩ : Bool ↪ J))
      ((Finset.univ : Finset (Bool × Fin 30 × Bool)).map ⟨Sum.inr, Sum.inr_injective⟩) := by
    rw [Finset.disjoint_left]; intro j h1 h2
    obtain ⟨a, -, rfl⟩ := Finset.mem_map.mp h1
    obtain ⟨b, -, h⟩ := Finset.mem_map.mp h2
    cases h
  have hb (Ψ : Bool → sProp 𝕄) : bigSep Finset.univ Ψ = iprop(Ψ true ∗ Ψ false) := bigSep_univ_eq_bigSepL [true, false] (by decide) (by decide) Ψ
  rw [hu, BI.bigSep_union hd, bigSep_map, bigSep_map, bigSep_univ_prod, hb, hb]
  simp only [bigSep_univ_prod, hb]
  rfl

omit [FloatOps F] in
theorem bigSep_hops (Φ : ℕ → sProp 𝕄) : (bigSep (Finset.univ : Finset (Fin 30)) fun h => Φ h.val) = bigSep (Finset.Ico 0 30) Φ := by
  rw [show Finset.Ico 0 30 = (Finset.univ : Finset (Fin 30)).map Fin.valEmbedding by decide, bigSep_map]
  rfl

omit [FloatOps F] in
theorem toks_eq (c : Dev nD) : (bigSep Finset.univ fun j : J => (dutyTok ER (tokOf (c, j)).1 (tokOf (c, j)).2.1 (tokOf (c, j)).2.2 : sProp 𝕄)) = toks c := by
  rw [bigSep_J]
  unfold toks strToks
  rw [← bigSep_hops, ← bigSep_hops]
  rfl

/-- What the launch element deals device `c`, -/
def G (c : Dev nD) : sProp 𝕄 :=
  iprop((bigSep Finset.univ fun k : Cl => roundState ER (Rd m) (kcell (c, k)) 0)
    ∗ (bigSep Finset.univ fun k : Cl => iprop(atPos ER (kcell (c, k)) 0 ∅ 0 ∗ reached ER (kcell (c, k)) 0)) ∗ toks (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cl => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => toks_eq c
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The cells' invariants, made from all devices' counters at once -/

omit [FloatOps F] in
theorem bigSep_Cl (Φ : Cl → sProp 𝕄) : bigSep Finset.univ Φ
    = iprop(Φ none ∗ (Φ (sC true 0) ∗ Φ (sC true 1) ∗ Φ (rC true 0) ∗ Φ (rC true 1) ∗ Φ (rC true 2))
      ∗ (Φ (sC false 0) ∗ Φ (sC false 1) ∗ Φ (rC false 0) ∗ Φ (rC false 1) ∗ Φ (rC false 2))) := by
  rw [bigSep_univ_eq_bigSepL [none, sC true 0, sC true 1, rC true 0, rC true 1, rC true 2, sC false 0, sC false 1, rC false 0, rC false 1, rC false 2]
    (by decide) (by decide)]
  have h1 : bigSepL [none, sC true 0, sC true 1, rC true 0, rC true 1, rC true 2, sC false 0, sC false 1, rC false 0, rC false 1, rC false 2] Φ
      ⊢ iprop(Φ none ∗ (Φ (sC true 0) ∗ Φ (sC true 1) ∗ Φ (rC true 0) ∗ Φ (rC true 1) ∗ Φ (rC true 2))
      ∗ (Φ (sC false 0) ∗ Φ (sC false 1) ∗ Φ (rC false 0) ∗ Φ (rC false 1) ∗ Φ (rC false 2))) := by
    show iprop(Φ none ∗ Φ (sC true 0) ∗ Φ (sC true 1) ∗ Φ (rC true 0) ∗ Φ (rC true 1) ∗ Φ (rC true 2) ∗ Φ (sC false 0) ∗ Φ (sC false 1) ∗ Φ (rC false 0) ∗ Φ (rC false 1) ∗ Φ (rC false 2)) ⊢ _
    iintro ⟨A, B1, B2, B3, B4, B5, C1, C2, C3, C4, C5⟩
    isplitl [A]; · iexact A
    isplitl [B1 B2 B3 B4 B5]
    · isplitl [B1]; · iexact B1
      isplitl [B2]; · iexact B2
      isplitl [B3]; · iexact B3
      isplitl [B4] <;> iassumption
    isplitl [C1]; · iexact C1
    isplitl [C2]; · iexact C2
    isplitl [C3]; · iexact C3
    isplitl [C4] <;> iassumption
  have h2 : iprop(Φ none ∗ (Φ (sC true 0) ∗ Φ (sC true 1) ∗ Φ (rC true 0) ∗ Φ (rC true 1) ∗ Φ (rC true 2))
      ∗ (Φ (sC false 0) ∗ Φ (sC false 1) ∗ Φ (rC false 0) ∗ Φ (rC false 1) ∗ Φ (rC false 2)))
      ⊢ bigSepL [none, sC true 0, sC true 1, rC true 0, rC true 1, rC true 2, sC false 0, sC false 1, rC false 0, rC false 1, rC false 2] Φ := by
    show _ ⊢ iprop(Φ none ∗ Φ (sC true 0) ∗ Φ (sC true 1) ∗ Φ (rC true 0) ∗ Φ (rC true 1) ∗ Φ (rC true 2) ∗ Φ (sC false 0) ∗ Φ (sC false 1) ∗ Φ (rC false 0) ∗ Φ (rC false 1) ∗ Φ (rC false 2))
    iintro ⟨A, ⟨B1, B2, B3, B4, B5⟩, C1, C2, C3, C4, C5⟩
    isplitl [A]; · iexact A
    isplitl [B1]; · iexact B1
    isplitl [B2]; · iexact B2
    isplitl [B3]; · iexact B3
    isplitl [B4]; · iexact B4
    isplitl [B5]; · iexact B5
    isplitl [C1]; · iexact C1
    isplitl [C2]; · iexact C2
    isplitl [C3]; · iexact C3
    isplitl [C4] <;> iassumption
  exact BI.equiv_iff.mp ⟨h1, h2⟩

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) : (Pipeline.ownSems0 (Ix := ℕ) (Name := ℕ) (U := UU) (Lvl := ℕ) (Val := Elt F) (τ := τ) osem c : sProp 𝕄)
    = iprop(semVal (sCell c true 0) 0 ∗ semVal (sCell c true 1) 0 ∗ semVal (sCell c false 0) 0 ∗ semVal (sCell c false 1) 0
      ∗ semVal (rCell c true 0) 0 ∗ semVal (rCell c true 1) 0 ∗ semVal (rCell c true 2) 0
      ∗ semVal (rCell c false 0) 0 ∗ semVal (rCell c false 1) 0 ∗ semVal (rCell c false 2) 0) := by
  rw [Pipeline.ownSems0_eq_of_list c osem [0, 1, 2, 3, 4, 5, 6, 7, 8, 9] (by decide) (by decide)]; rfl

omit [FloatOps F] in
theorem sems0_in (c : Dev nD) :
    iprop(Pipeline.ownSems0 (Ix := ℕ) (Name := ℕ) (U := UU) (Lvl := ℕ) (Val := Elt F) (τ := τ) osem c ∗ unscopedSems0 c)
      ⊢ (bigSep Finset.univ fun k : Cl => semVal (kcell (c, k)) 0 : sProp 𝕄) := by
  rw [ownSems0_eq, unscopedSems0_eq, bigSep_Cl]
  iintro ⟨⟨B1, B2, C1, C2, B3, B4, B5, C3, C4, C5⟩, A⟩
  isplitl [A]; · iexact A
  isplitl [B1 B2 B3 B4 B5]
  · isplitl [B1]; · iexact B1
    isplitl [B2]; · iexact B2
    isplitl [B3]; · iexact B3
    isplitl [B4] <;> iassumption
  isplitl [C1]; · iexact C1
  isplitl [C2]; · iexact C2
  isplitl [C3]; · iexact C3
  isplitl [C4] <;> iassumption

omit [FloatOps F] in
theorem sems0_out (c : Dev nD) : allZero (F := F) c
      ⊢ iprop(unscopedSems0 c ∗ Pipeline.ownSems0 (Ix := ℕ) (Name := ℕ) (U := UU) (Lvl := ℕ) (Val := Elt F) (τ := τ) osem c) := by
  rw [ownSems0_eq, unscopedSems0_eq]
  unfold allZero zeros
  iintro ⟨A, ⟨B1, B2, B3, B4, B5⟩, C1, C2, C3, C4, C5⟩
  isplitl [A]; · iexact A
  isplitl [B1]; · iexact B1
  isplitl [B2]; · iexact B2
  isplitl [C1]; · iexact C1
  isplitl [C2]; · iexact C2
  isplitl [B3]; · iexact B3
  isplitl [B4]; · iexact B4
  isplitl [B5]; · iexact B5
  isplitl [C3]; · iexact C3
  isplitl [C4] <;> iassumption

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Cl => iprop(∃ κ : ℕ, cellInv ER (Rd m) κ (kcell (c, k))))
          ∗ (bigSep Finset.univ fun k : Cl => iprop(atPos ER (kcell (c, k)) 0 ∅ 0 ∗ reached ER (kcell (c, k)) 0)) ∗ toks (F := F) c) := by
  unfold G
  iintro ⟨Hos, Hus, Hst, Hat, Htok⟩
  ihave Hv := (sems0_in (F := F) c) $$ [Hos Hus]
  · isplitl [Hos] <;> iassumption
  imod (show iprop((bigSep Finset.univ fun k : Cl => semVal (kcell (c, k)) 0) ∗ bigSep Finset.univ fun k : Cl => roundState ER (Rd m) (kcell (c, k)) 0)
      ⊢ (|={Set.univ}=> bigSep Finset.univ fun k : Cl => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The cells' invariants and that every cell has reached round 0. -/
def records (K : Dev nD × Cl → ℕ) : sProp 𝕄 :=
  iprop((bigSep Finset.univ fun ck : Dev nD × Cl => cellInv ER (Rd m) (K ck) (kcell ck))
    ∗ bigSep Finset.univ fun ck : Dev nD × Cl => reached ER (kcell ck) 0)

instance records_persistent (K : Dev nD × Cl → ℕ) : BI.Persistent (records m K) := by unfold records; infer_instance

/-- What stays with device `c`: its positions and the tokens it pays with. -/
def linear (c : Dev nD) : sProp 𝕄 :=
  iprop((bigSep Finset.univ fun k : Cl => atPos ER (kcell (c, k)) 0 ∅ 0) ∗ payToks (F := F) c)

/-- What the global step leaves device `c`. -/
def G' (c : Dev nD) : sProp 𝕄 := iprop(∃ K, records m K ∗ linear (F := F) c)

omit [FloatOps F] in
theorem strToks_around (e : Bool) : (bigSep Finset.univ fun c : Dev nD => (strToks (F := F) e c c : sProp 𝕄))
    = bigSep Finset.univ fun c : Dev nD => strToks (F := F) e c (nb e c) := by
  unfold strToks
  simp only [bigSep_sep']
  rw [bigSep_univ_equiv (ring e) (fun c : Dev nD => bigSep (Finset.Ico 0 30) fun h => (dutyTok ER (rCell c e h) (h / 3) false : sProp 𝕄))]
  rfl

omit [FloatOps F] in
/-- The tokens dealt around the ring. -/
theorem toks_around : (bigSep Finset.univ fun c : Dev nD => (toks (F := F) c : sProp 𝕄)) = bigSep Finset.univ fun c : Dev nD => payToks (F := F) c := by
  unfold toks payToks
  rw [bigSep_sep', bigSep_sep', bigSep_sep', bigSep_sep', bigSep_sep', bigSep_sep', strToks_around, strToks_around,
    bigSep_univ_equiv (ring false) (fun c : Dev nD => (dutyTok ER (barCell c) 0 true : sProp 𝕄)),
    bigSep_univ_equiv (ring true) (fun c : Dev nD => (dutyTok ER (barCell c) 0 false : sProp 𝕄))]
  rfl

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cl => iprop(∃ κ : ℕ, cellInv ER (Rd m) κ (kcell (c, k))))
          ∗ (bigSep Finset.univ fun k : Cl => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × Cl => iprop(∃ κ : ℕ, cellInv ER (Rd m) κ (kcell ck))),
    bigSep_congr (s := Finset.univ) (fun (c : Dev nD) _ => bigSep_sep' Finset.univ (fun k : Cl => (atPos ER (kcell (c, k)) 0 ∅ 0 : sProp 𝕄)) (fun k => reached ER (kcell (c, k)) 0)),
    bigSep_sep', ← bigSep_univ_prod (fun ck : Dev nD × Cl => (reached ER (kcell ck) 0 : sProp 𝕄)), toks_around]
  iintro ⟨HI, ⟨Hat, #HR⟩, Htok⟩
  ihave HK := (BI.bigSep_exists_pi Finset.univ (fun (ck : Dev nD × Cl) (κ : ℕ) => (cellInv ER (Rd m) κ (kcell ck) : sProp 𝕄))) $$ HI
  icases HK with ⟨%K, #HI⟩
  iapply (with_persistent (R := records m K) (Φ := linear (F := F)) (Ψ := G' m) fun c _ => (show iprop(records m K ∗ linear (F := F) c) ⊢ G' m c from by
    unfold G'; iintro H; iexists K; iexact H))
  isplitr
  · unfold records; isplitl; · iexact HI
    iexact HR
  · unfold linear
    rw [bigSep_sep']
    isplitl [Hat]; · iexact Hat
    iexact Htok

/-- The global step. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- The credit of everything a stream delivers to device `c`. -/
def strCred (e : Bool) (c : Dev nD) : sProp 𝕄 := bigSep (Finset.Ico 0 30) fun h => cred (tallyAt (rCell c e h) (h + 2) N)

omit [FloatOps F] in
theorem creds (c : Dev nD) :
    (Pipeline.launchCred O₀ c : sProp 𝕄) ⊢ iprop(cred (tallyAt (barCell c) 1 2) ∗ strCred (F := F) true c ∗ strCred (F := F) false c) := by
  have hO : O₀ = fun d => ((∑ h ∈ Finset.Ico 0 30, (due d false h + due d true h)) + tallyAt (barCell (nb true d)) 1 1) + tallyAt (barCell (nb false d)) 1 1 := rfl
  rw [hO, Pipeline.launchCred_add, Pipeline.launchCred_add, Pipeline.launchCred_sum (Finset.Ico 0 30) (fun h d => due d false h + due d true h),
    bigSep_congr (s := Finset.Ico 0 30) (fun h _ => Pipeline.launchCred_add (fun d => due d false h) (fun d => due d true h) c), bigSep_sep']
  have hs (e : Bool) : (bigSep (Finset.Ico 0 30) fun h => (Pipeline.launchCred (fun d => due d e h) c : sProp 𝕄)) ⊢ strCred (F := F) e c :=
    bigSep_mono fun h _ => Pipeline.launchCred_tallyAt (csem (rC e h)) (nb e) (nb (!e)) (nb_nb e) (nb_nb' e) (h + 2) N c
  have hb (e : Bool) : (Pipeline.launchCred (fun d => tallyAt (barCell (nb e d)) 1 1) c : sProp 𝕄) ⊢ cred (tallyAt (barCell c) 1 1) :=
    Pipeline.launchCred_tallyAt (csem none) (nb e) (nb (!e)) (nb_nb e) (nb_nb' e) 1 1 c
  have h2 : iprop(cred (tallyAt (barCell c) 1 1) ∗ cred (tallyAt (barCell c) 1 1)) ⊢ (cred (tallyAt (barCell c) 1 2) : sProp 𝕄) :=
    ((cred_add _ _).2).trans (Entails.of_eq (by rw [tallyAt_add]))
  iintro ⟨⟨⟨H1, H2⟩, H3⟩, H4⟩
  ihave H1 := (hs false) $$ H1
  ihave H2 := (hs true) $$ H2
  ihave H3 := (hb true) $$ H3
  ihave H4 := (hb false) $$ H4
  isplitl [H3 H4]
  · iapply h2; isplitl [H3] <;> iassumption
  isplitl [H2] <;> iassumption

omit [FloatOps F] in
theorem ahead_intro (e : Bool) (c : Dev nD) : iprop(strToks (F := F) e c (nb e c) ∗ strCred (F := F) e c) ⊢ ahead (F := F) e c 0 := by
  unfold strToks strCred ahead
  rw [← bigSep_sep']
  have h3 (A B C : sProp 𝕄) : iprop((A ∗ B) ∗ C) ⊢ iprop(A ∗ B ∗ C) := by
    iintro ⟨⟨A, B⟩, C⟩
    isplitl [A]; · iexact A
    isplitl [B] <;> iassumption
  exact bigSep_mono fun h _ => h3 _ _ _

theorem start_of (c : Dev nD) :
    iprop(levs (F := F) ∗ (cred (tallyAt (barCell c) 1 2) ∗ strCred (F := F) true c ∗ strCred (F := F) false c) ∗ G' m c) ⊢ start m c := by
  unfold start G' records linear payToks
  rw [bigSep_Cl]
  iintro ⟨Hlev, ⟨HcB, C1, C2⟩, ⟨%K, ⟨HI, HR⟩, ⟨PB, ⟨P1, P2, P3, P4, P5⟩, Q1, Q2, Q3, Q4, Q5⟩, ⟨TL, TR⟩, T1, T2⟩⟩
  iexists K
  isplitl [Hlev HI HR]
  · unfold know
    isplitl [HI]; · iexact HI
    isplitl [HR] <;> iassumption
  unfold lin posAt
  isplitl [PB]; · iexact PB
  isplitl [TL]; · iexact TL
  isplitl [TR]; · iexact TR
  isplitl [HcB]; · iexact HcB
  isplitl [P1 P2 P3 P4 P5 T1 C1]
  · isplitr [T1 C1]
    · isplitl [P1]; · iexact P1
      isplitl [P2]; · iexact P2
      isplitl [P3]; · iexact P3
      isplitl [P4] <;> iassumption
    iapply (ahead_intro (F := F) true c)
    isplitl [T1] <;> iassumption
  · isplitr [T2 C2]
    · isplitl [Q1]; · iexact Q1
      isplitl [Q2]; · iexact Q2
      isplitl [Q3]; · iexact Q3
      isplitl [Q4] <;> iassumption
    iapply (ahead_intro (F := F) false c)
    isplitl [T2] <;> iassumption

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [← levs_eq]
  iintro ⟨-, Hlev, Hcr, -, HG⟩
  ihave Hc := (creds (F := F) c) $$ Hcr
  imodintro
  isplitl
  · iapply (start_of m c)
    isplitl [Hlev]; · iexact Hlev
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ bufs
  iintro ⟨Hr, Hz⟩
  ihave Hz := (sems0_out (F := F) c) $$ Hz
  icases Hz with ⟨H1, H2⟩
  isplitl [H1]; · iexact H1
  isplitl [H2] <;> iassumption

theorem stageWaits (c : Dev nD) : (levAts L lv : sProp 𝕄) ⊢ Pipeline.cellsWaits cfgs (dats m ρ) 0 0 c :=
  Pipeline.cellsWaits_intro cfgs (dats m ρ) 0 0 c fun w s t =>
    mayWait c _ 0 _ (by omega) fun g j h => by
      rcases t with ⟨_ | _, ht⟩
      · have := O₀_pos (c := c) h; exact ⟨this.1, by omega, by omega⟩
      · exact absurd h (Nat.lt_irrefl 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- For any float values and from any memory with zero counters: every weakly fair execution terminates, and every final
    state has the computed contents in the windows' arrays and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stageWaits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Hand
-- ==== Proof.Arrays.lean ====
/- What the arrays hold: each input's block is the whole argument, and the result's array ends at what the body left. -/
module

public import proofs.«01_k».proof.Proof.Launch
public import Idealize.ShloMosaic.Lib.Pipeline.Value
public import Idealize.ShloMosaic.Lib.ValueIdx

@[expose] public section

noncomputable section

namespace Cert.KernelIdeal.Hand

open Cert.KernelIdeal Cert.KernelIdeal.Gen

open Idealize.ShloMosaic
open Idealize.ShloMosaic.TcCoe
open Idealize.ShloMosaic.ValueIdx

variable {F : FTy → Type} [FloatOps F]

variable (m : (ℓ : Loc nD τ sig) → Buf (Elt F) ℓ) (ρ : Dev nD → PrngReg)

/-- A rectangle that begins at zero and is not strided places every index where it was. -/
theorem block_index {S : Shape} (n : Fin S.rank → Nat) (inb : ∀ a, 0 * n a + S.size a ≤ S.size a) (i : S.Idx) :
    (Rect.unit (s := S) (fun a => 0 * n a) S.size inb).emb i = i :=
  funext fun a => Fin.ext (by rw [Rect.emb_apply]; show 0 * n a + 1 * (i a).val = (i a).val; omega)

/-- Each input's block is read as its whole array. -/
theorem stgX_eq (c : Dev nD) : stgX m c = m ((c : Thread nD τ).loc main_arg0) := by
  unfold stgX
  generalize m ((c : Thread nD τ).loc main_arg0) = v
  exact funext fun i => congrArg v (block_index (S := S2048x512) S2048x512.size _ i)

theorem stgRt_eq (c : Dev nD) : stgRt m c = m ((c : Thread nD τ).loc main_arg1) := by
  unfold stgRt
  generalize m ((c : Thread nD τ).loc main_arg1) = v
  exact funext fun i => congrArg v (block_index (S := S512x64) S512x64.size _ i)

theorem stgIx_eq (c : Dev nD) : stgIx m c = m ((c : Thread nD τ).loc main_arg2) := by
  unfold stgIx
  generalize m ((c : Thread nD τ).loc main_arg2) = v
  exact funext fun i => congrArg v (block_index (S := S2048x1) S2048x1.size _ i)

theorem stgW_eq (c : Dev nD) : stgW m c = m ((c : Thread nD τ).loc main_arg3) := by
  unfold stgW
  generalize m ((c : Thread nD τ).loc main_arg3) = v
  exact funext fun i => congrArg v (block_index (S := S4x512x1024) S4x512x1024.size _ i)

theorem stgSh_eq (c : Dev nD) : stgSh m c = m ((c : Thread nD τ).loc main_arg4) := by
  unfold stgSh
  generalize m ((c : Thread nD τ).loc main_arg4) = v
  exact funext fun i => congrArg v (block_index (S := S512x1024) S512x1024.size _ i)

/-- The result's block is the whole result. -/
theorem out_read (b : Vec F S2048x1024 .f32) : ((cfg0.win 5).blk t0_0).view.read (Elt F) b = b :=
  funext fun i => congrArg b (block_index (S := S2048x1024) S2048x1024.size _ i)

theorem out_cut (b : Vec F S2048x1024 .f32) : (cfg0.win 5).cut (cfg0.grid.coords t0_0) b = b := rfl

theorem after_out (c : Dev nD) (t : Fin cfg0.N) : (dats m ρ 0 c).after 5 t = outAt m c := by dsimp only [dats]

theorem flushed_eq (c : Dev nD) (t : Fin cfg0.N) :
    (dats m ρ 0 c).flushed 5 t = ((cfg0.win 5).blk t).view.read (Elt F) (outAt m c) := by
  obtain rfl := fin_N0 t
  have ha := after_out m ρ c t0_0
  generalize outAt m c = b at ha ⊢
  exact ((congrArg ((cfg0.win 5).cut (cfg0.grid.coords t0_0)) ha).trans (out_cut b)).trans (out_read b).symm

theorem out_cover (i : S2048x1024.Idx) : ∃ t : Fin cfg0.N, (cfg0.win 5).flush t = true ∧ i ∈ ((cfg0.win 5).blk t).view.set := by
  refine ⟨t0_0, flush0_5 _, ?_⟩
  show i ∈ ((View.whole main_v1).slice (win0_5.rect t0_0)).set
  rw [View.set_slice_whole, Rect.mem_set_unit]
  intro a
  show 0 * S2048x1024.size a ≤ (i a).val ∧ (i a).val < 0 * S2048x1024.size a + S2048x1024.size a
  have h := (i a).isLt
  omega

/-- The result's array ends at what the body left there. -/
theorem finalA_out (c : Dev nD) : finalA m ρ c 5 = outAt m c :=
  (dats m ρ 0 c).arrAt_eq_of_cover 5 (outAt m c) (fun t _ => flushed_eq m ρ c t) out_cover

/-- The matrix of the device's expert `j` is that member of the device's stack. -/
theorem expert_apply (c : Dev nD) (j : Fin 4) (d : Fin 512) (h : Fin 1024) :
    expert m c j (ix3 (0 : Fin 1) d h) = stgW m c (ix3 j d h) := by
  unfold expert
  generalize stgW m c = v
  show v ((wRect j).emb (ix3 (0 : Fin 1) d h)) = _
  refine congrArg v (funext fun a => Fin.ext ?_)
  rw [Rect.emb_apply]
  match a with
  | ⟨0, _⟩ => show j.val + 1 * 0 = j.val; omega
  | ⟨1, _⟩ => show 0 + 1 * d.val = d.val; omega
  | ⟨2, _⟩ => show 0 + 1 * h.val = h.val; omega

end Cert.KernelIdeal.Hand

end
-- ==== Proof.RingSum.lean ====
/- What the ring adds up, over the extended reals: after the hops every row of the accumulator holds the sum of all devices'
   own contributions to that row. -/
module

public import proofs.«01_k».proof.Proof.Hops
public import Idealize.ShloMosaic.Lib.Pipeline.Value
public import Idealize.ShloMosaic.Lib.ValueIdx

@[expose] public section

noncomputable section

open scoped BigOperators

namespace Cert.KernelIdeal.Hand

open Cert.KernelIdeal Cert.KernelIdeal.Gen

open Idealize.ShloMosaic
open Idealize.ShloMosaic.TcCoe
open Idealize.SL Idealize.SL.Sem
open Idealize.ShloMosaic.ValueIdx

/-! ## The chunks -/

theorem chunkIx_lt (e : Bool) (c : Dev nD) (g : ℕ) : chunkIx e c g < 32 := by
  unfold chunkIx; cases e
  · simp only [Bool.false_eq_true, if_false]; omega
  · simp only [if_true]; omega

/-- The chunk that arrives for a hop is the one the sender had at the hop before. -/
theorem chunkIx_prev (e : Bool) (c : Dev nD) {g : ℕ} (h : g < 31) : chunkIx e (nb (!e) c) g = chunkIx e c (g + 1) := by
  have hc : c.val < 16 := c.isLt
  cases e
  · show ((c.val + 1) % 16 + g) % 16 + 16 = (c.val + (g + 1)) % 16 + 16
    omega
  · show ((c.val + 15) % 16 + 32 - g) % 16 = (c.val + 32 - (g + 1)) % 16
    omega

/-- From hop 15 on the two streams meet every chunk. -/
theorem exists_chunkIx (c : Dev nD) (j : ℕ) (hj : j < 32) : ∃ e k, k < 16 ∧ j = chunkIx e c (15 + k) := by
  have hc : c.val < 16 := c.isLt
  by_cases h : j < 16
  · refine ⟨true, (c.val + 17 + 16 - j) % 16, Nat.mod_lt _ (by decide), ?_⟩
    show j = (c.val + 32 - (15 + (c.val + 17 + 16 - j) % 16)) % 16
    omega
  · refine ⟨false, (j + 17 - c.val) % 16, Nat.mod_lt _ (by decide), ?_⟩
    show j = (c.val + (15 + (j + 17 - c.val) % 16)) % 16 + 16
    omega

/-- Row `r` of chunk `j`. -/
abbrev chunkRow (j : ℕ) (hj : j < 32) (r : Fin 64) : Fin 2048 := ⟨64 * j + r.val, by have := r.isLt; omega⟩

theorem chunk_emb (e : Bool) (c : Dev nD) {g : ℕ} (hg : g < 31) (r : Fin 64) (h : Fin 1024) :
    (chunk e c g).emb (ix2 r h) = ix2 (chunkRow (chunkIx e c g) (chunkIx_lt e c g) r) h := by
  funext a
  apply Fin.ext
  rw [Rect.emb_apply]
  match a with
  | ⟨0, _⟩ =>
    show off e c g 0 + 1 * r.val = 64 * chunkIx e c g + r.val
    rw [off_eq e c hg, Nat.one_mul]; rfl
  | ⟨1, _⟩ =>
    show off e c g 1 + 1 * h.val = h.val
    rw [off_eq e c hg, Nat.one_mul]; exact Nat.zero_add _

section
variable {F : FTy → Type} [FloatOps F]

/-- A chunk read at an index. -/
theorem rd_apply (e : Bool) (c : Dev nD) {g : ℕ} (hg : g < 31) (f : Vec F S2048x1024 .f32) (r : Fin 64) (h : Fin 1024) :
    rd e c g f (ix2 r h) = f (ix2 (chunkRow (chunkIx e c g) (chunkIx_lt e c g) r) h) :=
  congrArg f (chunk_emb e c hg r h)

/-- An index of the rewritten chunk reads what was written, -/
theorem wr_apply_mem (e : Bool) (c : Dev nD) {g : ℕ} (hg : g < 31) (f : Vec F S2048x1024 .f32) (v : Vec F S64x1024 .f32) (r : Fin 64)
    (h : Fin 1024) : wr e c g f v (ix2 (chunkRow (chunkIx e c g) (chunkIx_lt e c g) r) h) = v (ix2 r h) := by
  have h1 : (accM.access (chunk e c g)).read (Elt F) ((accM.access (chunk e c g)).write (Elt F) f v Finset.univ) = v := View.read_write_univ _ _
  have h2 := chunk_emb e c hg r h
  unfold wr
  generalize (accM.access (chunk e c g)).write (Elt F) f v Finset.univ = w at h1
  rw [← h2, ← h1]
  rfl

/-- and an index outside it what was there. -/
theorem wr_apply_not_mem (e : Bool) (c : Dev nD) {g : ℕ} (hg : g < 31) (f : Vec F S2048x1024 .f32) (v : Vec F S64x1024 .f32)
    (R : Fin 2048) (h : Fin 1024) (hR : R.val / 64 ≠ chunkIx e c g) : wr e c g f v (ix2 R h) = f (ix2 R h) := by
  refine View.write_of_not_mem _ _ _ fun hmem => hR ?_
  rw [View.setOn_univ] at hmem
  obtain ⟨y, hy⟩ := View.exists_emb_of_mem_set _ hmem
  rw [eq_ix2 y] at hy
  have h2 : ix2 (chunkRow (chunkIx e c g) (chunkIx_lt e c g) (y 0)) (y 1) = ix2 R h := (chunk_emb e c hg (y 0) (y 1)).symm.trans hy
  have h3 : 64 * chunkIx e c g + (y 0).val = R.val := congrArg Fin.val (congrFun h2 0)
  have h4 : (y 0).val < 64 := (y 0).isLt
  omega

end

/-! ## The payloads of a hop at an index -/

theorem unit_apply {α : Type} (v : S64x1024.Idx → α) (r : Fin 64) (h : Fin 1024) :
    shapeCast S1x64x1024 v shapeCasts_S64x1024_S1x64x1024 (ix3 (0 : Fin 1) r h) = v (ix2 r h) :=
  (shapeCast_addUnit_apply ![64, 1024] v shapeCasts_S64x1024_S1x64x1024 (ix3 (0 : Fin 1) r h)).trans (congrArg v (eq_ix2 _))

theorem drop_apply {α : Type} (v : S1x64x1024.Idx → α) (r : Fin 64) (h : Fin 1024) :
    shapeCast S64x1024 v shapeCasts_S1x64x1024_S64x1024 (ix2 r h) = v (ix3 (0 : Fin 1) r h) :=
  (shapeCast_dropUnit_apply ![64, 1024] v shapeCasts_S1x64x1024_S64x1024 (ix2 r h)).trans (congrArg v (eq_ix3 _))

theorem first_apply (v : Vec Ideal S64x1024 .f32) (r : Fin 64) (h : Fin 1024) :
    k0_pay11 (F := Ideal) v (ix3 (0 : Fin 1) r h) = v (ix2 r h) := by
  unfold k0_pay11
  exact (unit_apply _ r h).trans (congrFun (shapeCast_self v _) _)

theorem sum_apply (v : Vec Ideal S64x1024 .f32) (w : Vec Ideal S1x64x1024 .bf16) (r : Fin 64) (h : Fin 1024) :
    k0_pay55 (F := Ideal) v w (ix2 r h) = (v (ix2 r h) : EReal) + w (ix3 (0 : Fin 1) r h) := by
  unfold k0_pay55
  rw [addf_apply, shapeCast_self, extf_apply, drop_apply]

theorem add_apply (v : Vec Ideal S64x1024 .f32) (w : Vec Ideal S1x64x1024 .bf16) (r : Fin 64) (h : Fin 1024) :
    k0_pay13 (F := Ideal) v w (ix3 (0 : Fin 1) r h) = (v (ix2 r h) : EReal) + w (ix3 (0 : Fin 1) r h) := by
  unfold k0_pay13
  rw [unit_apply, truncf_apply]
  exact sum_apply v w r h

theorem copy_apply (w : Vec Ideal S1x64x1024 .bf16) (r : Fin 64) (h : Fin 1024) :
    k0_pay57 (F := Ideal) w (ix2 r h) = w (ix3 (0 : Fin 1) r h) := by
  unfold k0_pay57
  rw [extf_apply, drop_apply]

/-! ## The sums -/

variable (m : (ℓ : Loc nD τ sig) → Buf (Elt Ideal) ℓ)

/-- All devices' contributions to an entry. -/
def total (R : Fin 2048) (h : Fin 1024) : EReal := ∑ c : Dev nD, (own m c (ix2 R h) : EReal)

/-- Going round the ring meets every device. -/
theorem sum_round (e : Bool) (c : Dev nD) (f : Dev nD → EReal) : ∑ i ∈ Finset.range 16, f ((nb (!e))^[i] c) = ∑ d, f d := by
  rw [Finset.sum_range]
  have hb : Function.Bijective (fun i : Fin 16 => (nb (!e))^[i.val] c) := by
    revert e c; decide
  exact hb.sum_comp f

/-- A message of the first sixteen hops holds the sum of the contributions of the devices it came through. -/
theorem msg_apply (e : Bool) (g : ℕ) (hg : g ≤ 15) (c : Dev nD) (r : Fin 64) (h : Fin 1024) :
    msg m e g c (ix3 (0 : Fin 1) r h)
      = ∑ i ∈ Finset.range (g + 1), (own m ((nb (!e))^[i] c) (ix2 (chunkRow (chunkIx e c g) (chunkIx_lt e c g) r) h) : EReal) := by
  induction g generalizing c with
  | zero =>
    rw [msg_zero, first_apply, rd_apply e c (by omega), Finset.sum_range_one]
    rfl
  | succ g ih =>
    rw [msg_sum m e c (by omega) hg, add_apply, rd_apply e c (by omega), inbox_succ, ih (by omega)]
    conv_rhs => rw [Finset.sum_range_succ', add_comm]
    refine congrArg (HAdd.hAdd (α := EReal) (β := EReal) (γ := EReal) _) (Finset.sum_congr rfl fun i _ => ?_)
    have hr : chunkRow (chunkIx e (nb (!e) c) g) (chunkIx_lt e (nb (!e) c) g) r = chunkRow (chunkIx e c (g + 1)) (chunkIx_lt e c (g + 1)) r :=
      Fin.ext (congrArg (64 * · + r.val) (chunkIx_prev e c (by omega)))
    rw [hr, Function.iterate_succ_apply]

/-- From hop 15 on a message holds the whole sum. -/
theorem msg_total (e : Bool) (n : ℕ) (hn : n ≤ 15) (c : Dev nD) (r : Fin 64) (h : Fin 1024) :
    msg m e (15 + n) c (ix3 (0 : Fin 1) r h) = total m (chunkRow (chunkIx e c (15 + n)) (chunkIx_lt e c (15 + n)) r) h := by
  induction n generalizing c with
  | zero => rw [msg_apply m e 15 (by omega)]; exact sum_round e c fun d => own m d (ix2 (chunkRow (chunkIx e c 15) (chunkIx_lt e c 15) r) h)
  | succ n ih =>
    rw [← Nat.add_assoc, msg_fwd m e c (by omega), inbox_succ, ih (by omega)]
    exact congrArg (total m · h) (Fin.ext (congrArg (64 * · + r.val) (chunkIx_prev e c (by omega))))

/-- What a device keeps is the whole sum. -/
theorem kept_apply (e : Bool) (c : Dev nD) (n : ℕ) (hn : n ≤ 15) (r : Fin 64) (h : Fin 1024) :
    kept m e c (15 + n) (ix2 r h) = total m (chunkRow (chunkIx e c (15 + n)) (chunkIx_lt e c (15 + n)) r) h := by
  unfold kept
  cases n with
  | zero =>
    rw [if_pos rfl, sum_apply, ← msg_total m e 0 (by omega) c r h, msg_sum m e c (by omega) (by omega), add_apply]
  | succ n =>
    rw [if_neg (by omega), copy_apply, ← Nat.add_assoc, inbox_succ, msg_total m e n (by omega)]
    exact congrArg (total m · h) (Fin.ext (congrArg (64 * · + r.val) (chunkIx_prev e c (by omega))))

theorem accAt_of_met (c : Dev nD) (n : ℕ) (hn : n ≤ 16) (R : Fin 2048) (h : Fin 1024)
    (hR : ∃ e k, k < n ∧ R.val / 64 = chunkIx e c (15 + k)) : accAt m c n (ix2 R h) = total m R h := by
  have hrow : ∀ e g, R.val / 64 = chunkIx e c g → R = chunkRow (chunkIx e c g) (chunkIx_lt e c g) ⟨R.val % 64, Nat.mod_lt _ (by decide)⟩ :=
    fun e g he => Fin.ext (by show R.val = 64 * chunkIx e c g + R.val % 64; omega)
  induction n with
  | zero => obtain ⟨e, k, hk, _⟩ := hR; omega
  | succ n ih =>
    show wr false c (15 + n) (wr true c (15 + n) (accAt m c n) (kept m true c (15 + n))) (kept m false c (15 + n)) (ix2 R h) = _
    by_cases hf : R.val / 64 = chunkIx false c (15 + n)
    · rw [hrow false (15 + n) hf, wr_apply_mem false c (by omega), kept_apply m false c n (by omega)]
    rw [wr_apply_not_mem false c (by omega) _ _ R h hf]
    by_cases ht : R.val / 64 = chunkIx true c (15 + n)
    · rw [hrow true (15 + n) ht, wr_apply_mem true c (by omega), kept_apply m true c n (by omega)]
    rw [wr_apply_not_mem true c (by omega) _ _ R h ht]
    refine ih (by omega) ?_
    obtain ⟨e, k, hk, he⟩ := hR
    refine ⟨e, k, ?_, he⟩
    rcases Nat.lt_or_ge k n with hlt | hge
    · exact hlt
    · obtain rfl : k = n := by omega
      cases e
      · exact absurd he hf
      · exact absurd he ht

/-- After the hops every entry of the accumulator is the sum of all devices' contributions. -/
theorem accAt_total (c : Dev nD) (R : Fin 2048) (h : Fin 1024) : accAt m c 16 (ix2 R h) = total m R h :=
  accAt_of_met m c 16 (Nat.le_refl _) R h (exists_chunkIx c _ (by have := R.isLt; omega))

end Cert.KernelIdeal.Hand
-- ==== Proof.Weights.lean ====
/- The router's weights, over the extended reals: what the kernel computes from the tokens and the router matrix is what
   the reference computes, and where a token's largest score is a number each of its weights is a nonnegative number. -/
module

public import proofs.«01_k».proof.Proof.Gen.KernelIdeal.Skeleton
public import proofs.«01_k».proof.Proof.Gen.ReferenceIdeal
public import proofs.«01_k».proof.Proof.Gen.ReferenceIdeal.Read
public import Idealize.ShloMosaic.Lib.KernelVsHost
public import Idealize.ShloMosaic.Lib.ValueIdx

@[expose] public section

noncomputable section

open scoped BigOperators

namespace Cert.KernelIdeal.Hand

open Cert.KernelIdeal Cert.KernelIdeal.Gen

open Idealize.ShloMosaic
open Idealize.ShloMosaic.ValueIdx

/-! ## Rows spread over columns -/

/-- A column of row values spread over the columns, as the kernel and as the reference spell it. -/
theorem spread_eq (v : S2048.Idx → EReal) :
    broadcastTo S2048x64 (shapeCast S2048x1 v shapeCasts_S2048_S2048x1) broadcasts_S2048x1_S2048x64
      = broadcastInDim S2048x64 ![0, 1] Cert.ReferenceIdeal.Gen.bcast_S2048x1_S2048x64_0_1
          (broadcastInDim S2048x1 ![0] Cert.ReferenceIdeal.Gen.bcast_S2048_S2048x1_0 v) := by
  funext i
  obtain ⟨n, k, rfl⟩ : ∃ (n : Fin 2048) (k : Fin 64), i = ix2 n k := ⟨i 0, i 1, eq_ix2 i⟩
  have e1 := broadcastTo_apply (shapeCast S2048x1 v shapeCasts_S2048_S2048x1) broadcasts_S2048x1_S2048x64 (ix2 n k) (ix2 n (0 : Fin 1))
    (fun a => match a with
      | ⟨0, _⟩ => by show n.val = if (2048 : Nat) = 1 then 0 else n.val; rw [if_neg (by decide)]
      | ⟨1, _⟩ => by show 0 = if (1 : Nat) = 1 then 0 else k.val; rw [if_pos rfl])
  have e2 := shapeCast_apply v shapeCasts_S2048_S2048x1 (ix2 n (0 : Fin 1)) (ix1 n)
    (by rewrite [Shape.rowMajor_val_two, Shape.rowMajor_val_one]; show n.val = n.val * 1 + 0; omega)
  have e3 := broadcastInDim_apply ![0, 1] Cert.ReferenceIdeal.Gen.bcast_S2048x1_S2048x64_0_1
    (broadcastInDim S2048x1 ![0] Cert.ReferenceIdeal.Gen.bcast_S2048_S2048x1_0 v) (ix2 n k) (ix2 n (0 : Fin 1))
    (fun a => match a with
      | ⟨0, _⟩ => by show n.val = if (2048 : Nat) = 1 then 0 else n.val; rw [if_neg (by decide)]
      | ⟨1, _⟩ => by show 0 = if (1 : Nat) = 1 then 0 else k.val; rw [if_pos rfl])
  have e4 := broadcastInDim_apply ![0] Cert.ReferenceIdeal.Gen.bcast_S2048_S2048x1_0 v (ix2 n (0 : Fin 1)) (ix1 n)
    (fun a => match a with
      | ⟨0, _⟩ => by show n.val = if (2048 : Nat) = 1 then 0 else n.val; rw [if_neg (by decide)])
  exact e1.trans (e2.trans (e3.trans e4).symm)

/-! ## The kernel's weights are the reference's -/

open Cert.ReferenceIdeal.Read

theorem scores_eq (x : Vec Ideal S2048x512 .bf16) (r : Vec Ideal S512x64 .bf16) :
    matmul dot_S2048x512_S512x64_S2048x64_1_0_0_1_n_n none (k0_pay2 x)
        (shapeCast S512x64 r shapeCasts_S512x64_S512x64 : FVec Ideal S512x64 .bf16) (constant S2048x64 .f32 0x00000000#32)
      = val_main_v2 x r := by
  unfold k0_pay2
  rw [shapeCast_self, shapeCast_self, matmul_zero_eq_dotGeneral]
  rfl

theorem weights_eq (x : Vec Ideal S2048x512 .bf16) (r : Vec Ideal S512x64 .bf16) : k0_pay3 x r = val_main_v11 x r := by
  unfold k0_pay3
  have h1 : multiReduction .maximumf [1] S2048 (val_main_v2 x r) 0xFF800000#32 reduces_S2048x64_S2048 (.inl rfl) rfl
      = val_main_v3 x r :=
    (hostReduce_maximumf_eq_multiReduction (val_main_v2 x r) 0xFF800000#32 Cert.ReferenceIdeal.Gen.reducesTo_S2048x64_S2048_d1
      Cert.ReferenceIdeal.Gen.h_S_ reduces_S2048x64_S2048 (.inl rfl) rfl).symm
  have h2 : multiReduction .add [1] S2048 (val_main_v7 x r) 0x00000000#32 reduces_S2048x64_S2048 (.inl rfl) rfl
      = val_main_v8 x r := by
    unfold val_main_v8
    exact multiReduction_add_eq_hostReduceAdd (val_main_v7 x r) 0x00000000#32 reduces_S2048x64_S2048 (.inl rfl) rfl
      (val_main_cst_0 (F := Ideal)) Cert.ReferenceIdeal.Gen.reducesTo_S2048x64_S2048_d1 Cert.ReferenceIdeal.Gen.h_S_ Ideal.ofBits_zero_f32
  have h3 : exp (subf (val_main_v2 x r) (val_main_v5 x r)) = val_main_v7 x r := rfl
  have h4 : divf (val_main_v7 x r) (val_main_v10 x r) = val_main_v11 x r := rfl
  dsimp only
  rw [scores_eq, h1, spread_eq]
  change divf (exp (subf (val_main_v2 x r) (val_main_v5 x r))) (broadcastTo S2048x64 (shapeCast S2048x1 (multiReduction .add [1] S2048
    (exp (subf (val_main_v2 x r) (val_main_v5 x r))) 0x00000000#32 reduces_S2048x64_S2048 (.inl rfl) rfl) shapeCasts_S2048_S2048x1) broadcasts_S2048x1_S2048x64) = _
  rw [h3, h2, spread_eq]
  exact h4

/-! ## The weights are numbers -/

/-- A normalised exponential whose shift is the largest score, a number, is a nonnegative number. -/
theorem softmax_coe {n : ℕ} (s : Fin n → EReal) (M : ℝ) (hle : ∀ k, s k ≤ (M : EReal)) (hat : ∃ k, (M : EReal) ≤ s k) (j : Fin n) :
    ∃ q : ℝ, 0 ≤ q ∧ Ideal.div (Ideal.exp (s j - M)) (∑ k, Ideal.exp (s k - M)) = (q : EReal) := by
  have he : ∀ k, ∃ e : ℝ, 0 ≤ e ∧ Ideal.exp (s k - M) = (e : EReal) ∧ ((M : EReal) ≤ s k → 0 < e) := by
    intro k
    have hk := hle k
    generalize s k = a at hk
    induction a with
    | bot => exact ⟨0, le_rfl, by rw [EReal.bot_sub]; rfl, fun h => absurd (le_bot_iff.1 h) (EReal.coe_ne_bot M)⟩
    | top => exact absurd (top_le_iff.1 hk) (EReal.coe_ne_top M)
    | coe a =>
      refine ⟨Real.exp (a - M), (Real.exp_pos _).le, ?_, fun _ => Real.exp_pos _⟩
      rw [← EReal.coe_sub]; rfl
  choose e h0 he hpos using he
  have hsum : (∑ k, Ideal.exp (s k - M)) = ((∑ k, e k : ℝ) : EReal) := by
    rw [Finset.sum_congr rfl (fun k _ => he k)]
    induction (Finset.univ : Finset (Fin n)) using Finset.induction_on with
    | empty => simp
    | insert a t ha ih => rw [Finset.sum_insert ha, Finset.sum_insert ha, ih, EReal.coe_add]
  have hne : (∑ k, e k) ≠ 0 := by
    obtain ⟨k, hk⟩ := hat
    exact (Finset.sum_pos' (fun i _ => h0 i) ⟨k, Finset.mem_univ k, hpos k hk⟩).ne'
  refine ⟨e j * (1 / ∑ k, e k), mul_nonneg (h0 j) (div_nonneg zero_le_one (Finset.sum_nonneg fun i _ => h0 i)), ?_⟩
  rw [hsum, Ideal.div_coe hne, he, EReal.coe_mul]

theorem lift_row (n : Fin 2048) (k : Fin 64) : reduces_S2048x64_S2048.lift (ix1 n) k = (ix2 n k : S2048x64.Idx) :=
  funext fun a => Fin.ext (by match a with | ⟨0, _⟩ => rfl | ⟨1, _⟩ => rfl)

/-- The largest entry of a row. -/
theorem rowMax_apply (y : FVec Ideal S2048x64 .f32) (n : Fin 2048) :
    multiReduction .maximumf [1] S2048 y 0xFF800000#32 reduces_S2048x64_S2048 (.inl rfl) rfl (ix1 n)
      = (Finset.univ : Finset (Fin 64)).fold max (⊥ : EReal) (fun k => y (ix2 n k)) := by
  have hbot : Ideal.ofBits .f32 0xFF800000#32 = ⊥ := by simp [Ideal.ofBits, Ideal.ieee]
  have h2 : (y ∘ reduces_S2048x64_S2048.lift (ix1 n)) = fun k : Fin 64 => y (ix2 n k) :=
    funext fun k => congrArg y (lift_row n k)
  have h3 := Ideal.multiReduction_maximumf_single y 0xFF800000#32 reduces_S2048x64_S2048 (.inl rfl) rfl (ix1 n)
  rw [h2] at h3
  refine h3.trans ?_
  exact congrArg (fun b => Finset.fold max b (fun k : Fin 64 => y (ix2 n k)) Finset.univ) hbot

/-- The reference's largest score of a token. -/
theorem largest_apply (x : Vec Ideal S2048x512 .bf16) (r : Vec Ideal S512x64 .bf16) (n : Fin 2048) :
    val_main_v3 x r (ix1 n) = (Finset.univ : Finset (Fin 64)).fold max (⊥ : EReal) (fun k => val_main_v2 x r (ix2 n k)) := by
  rw [← rowMax_apply]
  exact congrFun (hostReduce_maximumf_eq_multiReduction (val_main_v2 x r) 0xFF800000#32 Cert.ReferenceIdeal.Gen.reducesTo_S2048x64_S2048_d1
      Cert.ReferenceIdeal.Gen.h_S_ reduces_S2048x64_S2048 (.inl rfl) rfl) (ix1 n)

/-- A weight is the exponential of its score over the sum of the token's exponentials. -/
theorem weight_apply (x : Vec Ideal S2048x512 .bf16) (r : Vec Ideal S512x64 .bf16) (n : Fin 2048) (j : Fin 64) :
    val_main_v11 x r (ix2 n j) = Ideal.div (Ideal.exp (val_main_v2 x r (ix2 n j) - val_main_v3 x r (ix1 n)))
      (∑ k : Fin 64, Ideal.exp (val_main_v2 x r (ix2 n k) - val_main_v3 x r (ix1 n))) := by
  have h7 : ∀ k : Fin 64, val_main_v7 (F := Ideal) x r (ix2 n k)
      = Ideal.exp (val_main_v2 x r (ix2 n k) - val_main_v3 x r (ix1 n)) := by
    intro k
    rw [val_main_v7_apply, val_main_v6_apply, val_main_v5_apply, val_main_v4_apply]
    have e : idx_main_v4 (idx_main_v5 (ix2 n k)) = ix1 n := funext fun a => Fin.ext (by match a with | ⟨0, _⟩ => rfl)
    rw [e]; rfl
  have h8 : val_main_v8 (F := Ideal) x r (ix1 n) = ∑ k : Fin 64, val_main_v7 (F := Ideal) x r (ix2 n k) := by
    rw [val_main_v8_apply]
    have e : ∀ k : Fin 64, idx_main_v8 (ix1 n) k = ix2 n k := fun k => funext fun a => Fin.ext (by match a with | ⟨0, _⟩ => rfl | ⟨1, _⟩ => rfl)
    simp only [e]
    show Ideal.ofBits .f32 0x00000000#32 + _ = _
    rw [Ideal.ofBits_zero_f32, zero_add]
  have h10 : val_main_v10 (F := Ideal) x r (ix2 n j) = val_main_v8 (F := Ideal) x r (ix1 n) := by
    rw [val_main_v10_apply, val_main_v9_apply]
    have e : idx_main_v9 (idx_main_v10 (ix2 n j)) = ix1 n := funext fun a => Fin.ext (by match a with | ⟨0, _⟩ => rfl)
    rw [e]
  rw [val_main_v11_apply, h10, h8, h7, Finset.sum_congr rfl (fun k _ => h7 k)]
  rfl

/-- Where a token's largest score is a number, each of its weights is a nonnegative number. -/
theorem weight_coe (x : Vec Ideal S2048x512 .bf16) (r : Vec Ideal S512x64 .bf16) (n : Fin 2048) (j : Fin 64) (M : ℝ)
    (hM : val_main_v3 x r (ix1 n) = (M : EReal)) : ∃ q : ℝ, 0 ≤ q ∧ val_main_v11 x r (ix2 n j) = (q : EReal) := by
  rw [weight_apply, hM]
  have hf := (largest_apply x r n).symm.trans hM
  refine softmax_coe (fun k => val_main_v2 x r (ix2 n k)) M (fun k => ?_) ?_ j
  · exact (Finset.fold_max_le _).1 hf.le |>.2 k (Finset.mem_univ k)
  · rcases (Finset.le_fold_max _).1 hf.ge with h | ⟨k, _, hk⟩
    · exact absurd (le_bot_iff.1 h) (EReal.coe_ne_bot M)
    · exact ⟨k, hk⟩

end Cert.KernelIdeal.Hand

end
-- ==== Proof.Reference.lean ====
/- What the reference computes for a token whose expert is one of the 64, over the extended reals: the token through the
   shared matrix, plus the expert's weight times the token through the expert's matrix. -/
module

public import proofs.«01_k».proof.Proof.Gen.ReferenceIdeal
public import proofs.«01_k».proof.Proof.Gen.ReferenceIdeal.Read
public import Idealize.ShloMosaic.Lib.ValueIdx

@[expose] public section

noncomputable section

open scoped BigOperators

namespace Cert.ReferenceIdeal.Hand

open Cert.ReferenceIdeal Cert.ReferenceIdeal.Gen Cert.ReferenceIdeal.Read

open Idealize.ShloMosaic
open Idealize.ShloMosaic.ValueIdx

/-! ## Expert numbers -/

theorem word_toInt (e : Fin 64) : (BitVec.ofNat 32 e.val).toInt.toNat = e.val := by revert e; decide

theorem word_not_neg (e : Fin 64) : IntOp.cmpi .slt (BitVec.ofNat 32 e.val) 0#32 = 0#1 := by revert e; decide

/-! ## The two gathers -/

/-- One column of each row of a matrix, the row's own column number, read at an index. -/
theorem gather_column {α : Type} (y : S2048x64.Idx → α) (idx : IVec S2048x1x1 32) (n : Fin 2048) (e : Fin 64)
    (he : idx (ix3 n (0 : Fin 1) (0 : Fin 1)) = BitVec.ofNat 32 e.val) :
    Host.gather gather_S2048x64_S2048x1x1_S2048x1_n_1_0_0_1_2_11 y idx (ix2 n (0 : Fin 1)) = y (ix2 n e) := by
  unfold Host.gather
  congr 1
  funext a
  refine Fin.ext ?_
  show gather_S2048x64_S2048x1x1_S2048x1_n_1_0_0_1_2_11.start (ix2 n (0 : Fin 1)) idx a
    + gather_S2048x64_S2048x1x1_S2048x1_n_1_0_0_1_2_11.batchCoord (ix2 n (0 : Fin 1)) a
    + gather_S2048x64_S2048x1x1_S2048x1_n_1_0_0_1_2_11.offCoord (ix2 n (0 : Fin 1)) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S2048x64_S2048x1x1_S2048x1_n_1_0_0_1_2_11.operandBatchingDims from List.mem_singleton.mpr rfl)]
    rfl
  · rw [GatherDims.batchCoord_eq_zero _ _ _ (fun h => absurd (List.mem_singleton.1 h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S2048x64_S2048x1x1_S2048x1_n_1_0_0_1_2_11.startIndexMap from List.mem_singleton.mpr rfl)]
    have hsi : gather_S2048x64_S2048x1x1_S2048x1_n_1_0_0_1_2_11.siIdx (ix2 n (0 : Fin 1))
        ⟨List.idxOf (1 : Fin 2) gather_S2048x64_S2048x1x1_S2048x1_n_1_0_0_1_2_11.startIndexMap,
          List.idxOf_lt_length_iff.2 (List.mem_singleton.mpr rfl)⟩ = ix3 n (0 : Fin 1) (0 : Fin 1) := by
      funext b; refine Fin.ext ?_
      match b with
      | ⟨0, _⟩ => rfl
      | ⟨1, _⟩ => rfl
      | ⟨2, _⟩ => rfl
    rw [hsi, he, word_toInt]
    show min e.val (64 - 1) = e.val
    have := e.isLt
    omega

/-- One matrix of a stack for each row number, read at an index. -/
theorem gather_matrix {α : Type} (y : S64x512x1024.Idx → α) (idx : IVec S2048x1 32) (n : Fin 2048) (d : Fin 512) (h : Fin 1024)
    (e : Fin 64) (he : idx (ix2 n (0 : Fin 1)) = BitVec.ofNat 32 e.val) :
    Host.gather gather_S64x512x1024_S2048x1_S2048x512x1024_12_0_n_n_0_1_15121024 y idx (ix3 n d h) = y (ix3 e d h) := by
  unfold Host.gather
  congr 1
  funext a
  refine Fin.ext ?_
  show gather_S64x512x1024_S2048x1_S2048x512x1024_12_0_n_n_0_1_15121024.start (ix3 n d h) idx a
    + gather_S64x512x1024_S2048x1_S2048x512x1024_12_0_n_n_0_1_15121024.batchCoord (ix3 n d h) a
    + gather_S64x512x1024_S2048x1_S2048x512x1024_12_0_n_n_0_1_15121024.offCoord (ix3 n d h) a = _
  rw [GatherDims.batchCoord_eq_zero _ _ _ (fun h => absurd h List.not_mem_nil)]
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S64x512x1024_S2048x1_S2048x512x1024_12_0_n_n_0_1_15121024.startIndexMap from List.mem_singleton.mpr rfl)]
    have hsi : gather_S64x512x1024_S2048x1_S2048x512x1024_12_0_n_n_0_1_15121024.siIdx (ix3 n d h)
        ⟨List.idxOf (0 : Fin 3) gather_S64x512x1024_S2048x1_S2048x512x1024_12_0_n_n_0_1_15121024.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi, he, word_toInt]
    show min e.val (64 - 1) = e.val
    have := e.isLt
    omega
  · unfold GatherDims.start
    rw [dif_neg (show ¬(1 : Fin 3) ∈ gather_S64x512x1024_S2048x1_S2048x512x1024_12_0_n_n_0_1_15121024.startIndexMap from fun h => absurd (List.mem_singleton.1 h) (by decide))]
    simp only [Nat.zero_add]
    unfold GatherDims.offCoord
    rw [dif_pos (show (1 : Fin 3) ∈ gather_S64x512x1024_S2048x1_S2048x512x1024_12_0_n_n_0_1_15121024.sKept by decide)]
    rfl
  · unfold GatherDims.start
    rw [dif_neg (show ¬(2 : Fin 3) ∈ gather_S64x512x1024_S2048x1_S2048x512x1024_12_0_n_n_0_1_15121024.startIndexMap from fun h => absurd (List.mem_singleton.1 h) (by decide))]
    simp only [Nat.zero_add]
    unfold GatherDims.offCoord
    rw [dif_pos (show (2 : Fin 3) ∈ gather_S64x512x1024_S2048x1_S2048x512x1024_12_0_n_n_0_1_15121024.sKept by decide)]
    rfl

/-! ## The result -/

section
variable (x : FVec Ideal S2048x512 .bf16) (r : FVec Ideal S512x64 .bf16) (ix : IVec S2048x1 32)
  (w : FVec Ideal S64x512x1024 .bf16) (sh : FVec Ideal S512x1024 .bf16)

/-- The column number the weight is read at is the token's expert, -/
theorem column_apply (n : Fin 2048) (e : Fin 64) (he : ix (ix2 n (0 : Fin 1)) = BitVec.ofNat 32 e.val) :
    val_main_call0_v5 (F := Ideal) ix (ix3 n (0 : Fin 1) (0 : Fin 1)) = BitVec.ofNat 32 e.val := by
  rw [val_main_call0_v5_apply]
  have e1 : idx_main_call0_v5 (ix3 n (0 : Fin 1) (0 : Fin 1)) = ix2 n (0 : Fin 1) := funext fun a => Fin.ext (by
    match a with
    | ⟨0, _⟩ => show ((n.val * 1 + 0) * 1 + 0) / 1 = n.val; omega
    | ⟨1, _⟩ => rfl)
  rw [e1, val_main_call0_v4_apply, val_main_call0_v1_apply, val_main_call0_v0_apply, val_main_call0_c_apply, he, word_not_neg]
  rfl

/-- and so is the number of the matrix it is multiplied with. -/
theorem matrix_apply (n : Fin 2048) (e : Fin 64) (he : ix (ix2 n (0 : Fin 1)) = BitVec.ofNat 32 e.val) :
    val_main_v22 (F := Ideal) ix (ix2 n (0 : Fin 1)) = BitVec.ofNat 32 e.val := by
  have e1 : idx_main_v16 (idx_main_v22 (ix2 n (0 : Fin 1))) = ix2 n (0 : Fin 1) := funext fun a => Fin.ext (by
    match a with
    | ⟨0, _⟩ => show n.val / 1 = n.val; omega
    | ⟨1, _⟩ => rfl)
  rw [val_main_v22_apply, val_main_v21_apply, val_main_v18_apply, val_main_v17_apply, val_main_c_apply, val_main_v16_apply, e1, he,
    word_not_neg]
  rfl

/-- The tokens through a matrix, at an index. -/
theorem product_apply (n : Fin 2048) (h : Fin 1024) :
    val_main_v13 (F := Ideal) x sh (ix2 n h) = ∑ d : Fin 512, (x (ix2 n d) * sh (ix2 d h) : EReal) := by
  rw [val_main_v13_apply]
  refine Finset.sum_congr rfl fun d _ => ?_
  have el : lidx_main_v13 (ix2 n h) d = ix2 n d := funext fun a => Fin.ext (by match a with | ⟨0, _⟩ => rfl | ⟨1, _⟩ => rfl)
  have er : ridx_main_v13 (ix2 n h) d = ix2 d h := funext fun a => Fin.ext (by match a with | ⟨0, _⟩ => rfl | ⟨1, _⟩ => rfl)
  rw [el, er]; rfl

/-- The reference's result at an index. -/
theorem result_apply (n : Fin 2048) (h : Fin 1024) (e : Fin 64) (he : ix (ix2 n (0 : Fin 1)) = BitVec.ofNat 32 e.val) :
    val_main_v27 (F := Ideal) x r ix w sh (ix2 n h)
      = (∑ d : Fin 512, (x (ix2 n d) * sh (ix2 d h) : EReal))
        + (val_main_v11 (F := Ideal) x r (ix2 n e) : EReal) * ∑ d : Fin 512, (x (ix2 n d) * w (ix3 e d h) : EReal) := by
  have h24 : val_main_v24 (F := Ideal) x ix w (ix2 n h) = ∑ d : Fin 512, (x (ix2 n d) * w (ix3 e d h) : EReal) := by
    rw [val_main_v24_apply]
    refine Finset.sum_congr rfl fun d _ => ?_
    have el : lidx_main_v24 (ix2 n h) d = ix2 n d := funext fun a => Fin.ext (by match a with | ⟨0, _⟩ => rfl | ⟨1, _⟩ => rfl)
    have er : ridx_main_v24 (ix2 n h) d = ix3 n d h := funext fun a => Fin.ext (by match a with | ⟨0, _⟩ => rfl | ⟨1, _⟩ => rfl | ⟨2, _⟩ => rfl)
    rw [el, er]
    exact congrArg (fun z : EReal => (x (ix2 n d) : EReal) * z)
      (gather_matrix (val_main_v15 (F := Ideal) w) (val_main_v22 (F := Ideal) ix) n d h e (matrix_apply ix n e he))
  have h25 : val_main_v25 (F := Ideal) x r ix (ix2 n h) = val_main_v11 (F := Ideal) x r (ix2 n e) := by
    rw [val_main_v25_apply]
    have e1 : idx_main_v25 (ix2 n h) = ix2 n (0 : Fin 1) := funext fun a => Fin.ext (by match a with | ⟨0, _⟩ => rfl | ⟨1, _⟩ => rfl)
    rw [e1]
    exact gather_column (val_main_v11 (F := Ideal) x r) (val_main_call0_v5 (F := Ideal) ix) n e (column_apply ix n e he)
  rw [val_main_v27_apply, val_main_v26_apply, product_apply, h24, h25]
  rfl

end

end Cert.ReferenceIdeal.Hand

end
-- ==== Proof.Part.lean ====
/- What one device's own contribution holds, over the extended reals: for a token routed to one of the device's four
   experts the token, weighted, through that expert's matrix; for every other token zero. -/
module

public import proofs.«01_k».proof.Proof.Program
public import proofs.«01_k».proof.Proof.Weights
public import proofs.«01_k».proof.Proof.Reference

@[expose] public section

noncomputable section

open scoped BigOperators

namespace Cert.KernelIdeal.Hand

open Cert.KernelIdeal Cert.KernelIdeal.Gen

open Idealize.ShloMosaic
open Idealize.ShloMosaic.ValueIdx

/-! ## The pieces, read at an index -/

/-- The tokens through a matrix. -/
theorem product_apply (a : FVec Ideal S2048x512 .bf16) (b : FVec Ideal S512x1024 .bf16) (n : Fin 2048) (h : Fin 1024) :
    matmul dot_S2048x512_S512x1024_S2048x1024_1_0_0_1_n_n none a b (constant S2048x1024 .f32 0x00000000#32) (ix2 n h)
      = ∑ d : Fin 512, (a (ix2 n d) * b (ix2 d h) : EReal) := by
  rw [matmul_zero_eq_dotGeneral]
  exact Cert.ReferenceIdeal.Hand.product_apply a b n h

/-- A column of weights spread over the token's entries. -/
theorem spreadX_apply (g : S2048x1.Idx → EReal) (n : Fin 2048) (d : Fin 512) :
    broadcastTo S2048x512 g broadcasts_S2048x1_S2048x512 (ix2 n d) = g (ix2 n (0 : Fin 1)) :=
  broadcastTo_apply g broadcasts_S2048x1_S2048x512 (ix2 n d) (ix2 n (0 : Fin 1)) (fun a => match a with
    | ⟨0, _⟩ => by show n.val = if (2048 : Nat) = 1 then 0 else n.val; rw [if_neg (by decide)]
    | ⟨1, _⟩ => by show 0 = if (1 : Nat) = 1 then 0 else d.val; rw [if_pos rfl])

/-- One expert's product with the tokens weighted by a column. -/
theorem weighted_apply (x : FVec Ideal S2048x512 .bf16) (g : FVec Ideal S2048x1 .f32) (w : FVec Ideal S1x512x1024 .bf16) (n : Fin 2048)
    (h : Fin 1024) :
    matmul dot_S2048x512_S512x1024_S2048x1024_1_0_0_1_n_n none
        (truncf .bf16 (mulf (extf .f32 x bitsLt_bf16_f32) (broadcastTo S2048x512 g broadcasts_S2048x1_S2048x512)) bitsLt_bf16_f32)
        (shapeCast S512x1024 w shapeCasts_S1x512x1024_S512x1024 : FVec Ideal S512x1024 .bf16) (constant S2048x1024 .f32 0x00000000#32) (ix2 n h)
      = ∑ d : Fin 512, (x (ix2 n d) * g (ix2 n (0 : Fin 1)) * w (ix3 (0 : Fin 1) d h) : EReal) := by
  refine (product_apply _ _ n h).trans (Finset.sum_congr rfl fun d _ => ?_)
  have e1 : (truncf .bf16 (mulf (extf .f32 x bitsLt_bf16_f32) (broadcastTo S2048x512 g broadcasts_S2048x1_S2048x512)) bitsLt_bf16_f32
      : FVec Ideal S2048x512 .bf16) (ix2 n d) = ((x (ix2 n d) : EReal) * g (ix2 n (0 : Fin 1)) : EReal) :=
    congrArg (fun z : EReal => (x (ix2 n d) : EReal) * z) (spreadX_apply g n d)
  have e2 : (shapeCast S512x1024 w shapeCasts_S1x512x1024_S512x1024 : FVec Ideal S512x1024 .bf16) (ix2 d h) = w (ix3 (0 : Fin 1) d h) := by
    refine shapeCast_apply w shapeCasts_S1x512x1024_S512x1024 (ix2 d h) (ix3 (0 : Fin 1) d h) ?_
    rewrite [Shape.rowMajor_val_two, Shape.rowMajor_val_three]
    show (0 * 512 + d.val) * 1024 + h.val = d.val * 1024 + h.val
    omega
  rw [e1, e2]

/-- A weight kept where the token's expert is the given one. -/
theorem keep_apply (q : FVec Ideal S2048x1 .f32) (ix : IVec S2048x1 32) (wd : BitVec 32) (n : Fin 2048) :
    select (cmpi .eq ix (broadcast S2048x1 wd)) q (broadcast S2048x1 (Scalar.ofBits (F := Ideal) .f32 0x00000000#32)) (ix2 n (0 : Fin 1))
      = (if ix (ix2 n (0 : Fin 1)) = wd then (q (ix2 n (0 : Fin 1)) : EReal) else 0 : EReal) := by
  show Scalar.select (BitVec.ofBool (ix (ix2 n (0 : Fin 1)) == wd)) (q (ix2 n (0 : Fin 1)) : EReal) (Ideal.ofBits .f32 0x00000000#32) = _
  rw [Ideal.ofBits_zero_f32]
  by_cases he : ix (ix2 n (0 : Fin 1)) = wd
  · rw [if_pos he, he, beq_self_eq_true]; rfl
  · rw [if_neg he, beq_false_of_ne he]; rfl

/-! ## The weight of a token's own expert -/

theorem word_inj (k e : Fin 64) : (BitVec.ofNat 32 k.val = BitVec.ofNat 32 e.val) ↔ k = e := by
  constructor
  · intro h
    have h2 := congrArg BitVec.toNat h
    rw [BitVec.toNat_ofNat, BitVec.toNat_ofNat, Nat.mod_eq_of_lt (by have := k.isLt; omega), Nat.mod_eq_of_lt (by have := e.isLt; omega)] at h2
    exact Fin.ext h2
  · rintro rfl; rfl

/-- A sum along a row. -/
theorem rowSum_apply (y : FVec Ideal S2048x64 .f32) (n : Fin 2048) :
    multiReduction .add [1] S2048 y 0x00000000#32 reduces_S2048x64_S2048 (.inl rfl) rfl (ix1 n) = ∑ k : Fin 64, (y (ix2 n k) : EReal) :=
  (Ideal.multiReduction_add_single y 0x00000000#32 reduces_S2048x64_S2048 (.inl rfl) rfl (ix1 n)).trans
    (Finset.sum_congr rfl fun k _ => congrArg y (lift_row n k))

/-- The weight the kernel picks for a token is its expert's. -/
theorem pick_apply (p : FVec Ideal S2048x64 .f32) (ix : IVec S2048x1 32) (n : Fin 2048) (e : Fin 64)
    (he : ix (ix2 n (0 : Fin 1)) = BitVec.ofNat 32 e.val) :
    k0_pay6 p (k0_pay5 (F := Ideal) ix) (ix2 n (0 : Fin 1)) = p (ix2 n e) := by
  have hmask : ∀ k : Fin 64, k0_pay5 (F := Ideal) ix (ix2 n k) = BitVec.ofBool (BitVec.ofNat 32 k.val == BitVec.ofNat 32 e.val) := by
    intro k
    unfold k0_pay5 k0_pay4
    have e1 : broadcastTo S2048x64 (shapeCast S2048x1 ix shapeCasts_S2048x1_S2048x1) broadcasts_S2048x1_S2048x64 (ix2 n k)
        = BitVec.ofNat 32 e.val := by
      rw [shapeCast_self]
      refine (broadcastTo_apply ix broadcasts_S2048x1_S2048x64 (ix2 n k) (ix2 n (0 : Fin 1)) (fun a => match a with
        | ⟨0, _⟩ => by show n.val = if (2048 : Nat) = 1 then 0 else n.val; rw [if_neg (by decide)]
        | ⟨1, _⟩ => by show 0 = if (1 : Nat) = 1 then 0 else k.val; rw [if_pos rfl])).trans he
    show BitVec.ofBool (iota .tc S2048x64 32 [1] iota_S2048x64_d1_w32 (ix2 n k)
      == broadcastTo S2048x64 (shapeCast S2048x1 ix shapeCasts_S2048x1_S2048x1) broadcasts_S2048x1_S2048x64 (ix2 n k)) = _
    rw [e1, iota_single_apply]
  unfold k0_pay6
  refine (shapeCast_apply _ shapeCasts_S2048_S2048x1 (ix2 n (0 : Fin 1)) (ix1 n)
    (by rewrite [Shape.rowMajor_val_two, Shape.rowMajor_val_one]; show n.val = n.val * 1 + 0; omega)).trans ?_
  refine (rowSum_apply _ n).trans ((Finset.sum_eq_single e (fun k _ hk => ?_) (fun h => absurd (Finset.mem_univ e) h)).trans ?_)
  · show Scalar.select (k0_pay5 (F := Ideal) ix (ix2 n k)) (p (ix2 n k) : EReal) (Ideal.ofBits .f32 0x00000000#32) = 0
    rw [hmask, beq_false_of_ne (fun h => hk ((word_inj k e).1 h)), Ideal.ofBits_zero_f32]; rfl
  · show Scalar.select (k0_pay5 (F := Ideal) ix (ix2 n e)) (p (ix2 n e) : EReal) (Ideal.ofBits .f32 0x00000000#32) = _
    rw [hmask, beq_self_eq_true]; rfl

/-! ## The device's experts -/

/-- The number of the device's expert `j`. -/
def expertNo (c : Dev nD) (j : Fin 4) : Fin 64 := ⟨4 * c.val + j.val, by have hc : c.val < 16 := c.isLt; have := j.isLt; omega⟩

theorem expertNo_word (c : Dev nD) (j : Fin 4) :
    Scalar.addi (Scalar.muli (devWord c) 4#32) (BitVec.ofNat 32 j.val) = BitVec.ofNat 32 (expertNo c j).val := by
  revert c j; decide

/-- What expert number `f`'s matrix adds for a token of expert `e`. -/
def partOf (x : FVec Ideal S2048x512 .bf16) (p : EReal) (w : FVec Ideal S1x512x1024 .bf16) (n : Fin 2048) (h : Fin 1024) (e f : Fin 64) : EReal :=
  if e = f then ∑ d : Fin 512, (x (ix2 n d) * p * w (ix3 (0 : Fin 1) d h) : EReal) else 0

/-- One expert's product with the tokens weighted where they are routed to it. -/
theorem one_apply (x : FVec Ideal S2048x512 .bf16) (q : FVec Ideal S2048x1 .f32) (ix : IVec S2048x1 32) (w : FVec Ideal S1x512x1024 .bf16)
    (n : Fin 2048) (h : Fin 1024) (e f : Fin 64) (p : EReal) (he : ix (ix2 n (0 : Fin 1)) = BitVec.ofNat 32 e.val)
    (hq : q (ix2 n (0 : Fin 1)) = p) :
    ∑ d : Fin 512, (x (ix2 n d) * select (cmpi .eq ix (broadcast S2048x1 (BitVec.ofNat 32 f.val))) q
        (broadcast S2048x1 (Scalar.ofBits (F := Ideal) .f32 0x00000000#32)) (ix2 n (0 : Fin 1)) * w (ix3 (0 : Fin 1) d h) : EReal)
      = partOf x p w n h e f := by
  rw [keep_apply, he, hq]
  unfold partOf
  by_cases hef : e = f
  · rw [if_pos hef, if_pos (congrArg (fun z : Fin 64 => BitVec.ofNat 32 z.val) hef)]
  · rw [if_neg hef, if_neg (fun h => hef ((word_inj e f).1 h))]
    exact Finset.sum_eq_zero fun d _ => by rw [mul_zero, zero_mul]

/-- A device's own contribution, read at an index. -/
theorem ownPart_apply (c : Dev nD) (x : Vec Ideal S2048x512 .bf16) (rt : Vec Ideal S512x64 .bf16) (ix : Vec Ideal S2048x1 .i32)
    (w : Fin 4 → Vec Ideal S1x512x1024 .bf16) (n : Fin 2048) (h : Fin 1024) (e : Fin 64)
    (he : ix (ix2 n (0 : Fin 1)) = BitVec.ofNat 32 e.val) :
    ownPart c x rt ix w (ix2 n h)
      = ∑ j : Fin 4, partOf x (Cert.ReferenceIdeal.Read.val_main_v11 x rt (ix2 n e)) (w j) n h e (expertNo c j) := by
  have hq := pick_apply (k0_pay3 x rt) ix n e he
  rw [weights_eq] at hq
  have hk : ∀ j : Fin 4, _ := fun j => one_apply x (k0_pay6 (Cert.ReferenceIdeal.Read.val_main_v11 x rt) (k0_pay5 (F := Ideal) ix)) ix (w j) n h e (expertNo c j) _ he hq
  have h0 := expertNo_word c 0
  have h1 := expertNo_word c 1
  have h2 := expertNo_word c 2
  have h3 := expertNo_word c 3
  unfold ownPart k0_pay10 k0_pay9 k0_pay8 k0_pay7 k0_pay4 k0_pay2
  dsimp only
  rw [shapeCast_self, shapeCast_self, weights_eq]
  rw [Fin.sum_univ_four, ← hk 0, ← hk 1, ← hk 2, ← hk 3, ← h0, ← h1, ← h2, ← h3]
  have hz : ((Scalar.ofBits (F := Ideal) .f32 0x00000000#32 : Ideal .f32) : EReal) = 0 := Ideal.ofBits_zero_f32
  rw [← weighted_apply, ← weighted_apply, ← weighted_apply, ← weighted_apply]
  refine congrArg (fun z : EReal => z + _ + _ + _) ?_
  exact (congrArg (fun z : EReal => z + _) hz).trans (zero_add _)

end Cert.KernelIdeal.Hand

end
-- ==== Proof.Value.lean ====
/- The result, over the extended reals: where every token is routed to an expert and its largest score is a number, each
   device's result is the reference's. -/
module

public import proofs.«01_k».proof.Proof.Arrays
public import proofs.«01_k».proof.Proof.RingSum
public import proofs.«01_k».proof.Proof.Part
public import Idealize.ShloMosaic.Lib.Layout

@[expose] public section

noncomputable section

open scoped BigOperators

namespace Cert.KernelIdeal.Hand

open Cert.KernelIdeal Cert.KernelIdeal.Gen

open Idealize.ShloMosaic
open Idealize.ShloMosaic.TcCoe
open Idealize.ShloMosaic.ValueIdx
open Cert.ReferenceIdeal.Read

/-- A nonnegative number comes out of a sum of products. -/
theorem weight_out {ι : Type} (s : Finset ι) (x w : ι → EReal) (q : ℝ) (hq : 0 ≤ q) :
    ∑ d ∈ s, x d * (q : EReal) * w d = (q : EReal) * ∑ d ∈ s, x d * w d := by
  classical
  induction s using Finset.induction_on with
  | empty => rw [Finset.sum_empty, Finset.sum_empty, mul_zero]
  | insert a t ha ih =>
    rw [Finset.sum_insert ha, Finset.sum_insert ha, ih,
      EReal.left_distrib_of_nonneg_of_ne_top (EReal.coe_nonneg.2 hq) (EReal.coe_ne_top q), mul_comm (x a) (q : EReal), mul_assoc]

/-- The device's stack of experts is its block of all the experts. -/
theorem stack_apply (w : Vec Ideal Cert.ReferenceIdeal.S64x512x1024 .bf16) (c : Dev nD) (j : Fin 4) (d : Fin 512) (h : Fin 1024) :
    (Layout.block ⟨3, ![4, 512, 1024]⟩ ⟨3, ![64, 512, 1024]⟩ 0 16 c w : Vec Ideal S4x512x1024 .bf16) (ix3 j d h)
      = w (ix3 (expertNo c j) d h) := by
  refine congrArg w (funext fun a => Fin.ext ?_)
  rw [Layout.Tiles.idx_val]
  match a with
  | ⟨0, _⟩ => show (if (0 : ℕ) = 0 then c.val * 4 + j.val else j.val) = 4 * c.val + j.val; rw [if_pos rfl]; omega
  | ⟨1, _⟩ => rfl
  | ⟨2, _⟩ => rfl

/-- Of all the experts on all the devices, only the token's adds anything. -/
theorem sum_experts (e : Fin 64) (f : Fin 64 → EReal) :
    (∑ c : Dev nD, ∑ j : Fin 4, if e = expertNo c j then f (expertNo c j) else 0) = f e := by
  have he := e.isLt
  let c₀ : Dev nD := (⟨e.val / 4, by omega⟩ : Fin 16)
  let j₀ : Fin 4 := ⟨e.val % 4, Nat.mod_lt _ (by decide)⟩
  have h₀ : expertNo c₀ j₀ = e := Fin.ext (by show 4 * (e.val / 4) + e.val % 4 = e.val; omega)
  have hne : ∀ (c : Dev nD) (j : Fin 4), e = expertNo c j → c = c₀ ∧ j = j₀ := by
    intro c j h
    have hv : e.val = 4 * c.val + j.val := congrArg Fin.val h
    have hj := j.isLt
    exact ⟨Fin.ext (by show c.val = e.val / 4; omega), Fin.ext (by show j.val = e.val % 4; omega)⟩
  rw [Finset.sum_eq_single c₀, Finset.sum_eq_single j₀, if_pos h₀.symm, h₀]
  · exact fun j _ hj => if_neg fun h => hj (hne c₀ j h).2
  · exact fun h => absurd (Finset.mem_univ _) h
  · exact fun c _ hc => Finset.sum_eq_zero fun j _ => if_neg fun h => hc (hne c j h).1
  · exact fun h => absurd (Finset.mem_univ _) h

variable (m : (ℓ : Loc nD τ sig) → Buf (Elt Ideal) ℓ)
  (x : Vec Ideal S2048x512 .bf16) (r : Vec Ideal S512x64 .bf16) (ix : Vec Ideal S2048x1 .i32)
  (w : Vec Ideal Cert.ReferenceIdeal.S64x512x1024 .bf16) (sh : Vec Ideal S512x1024 .bf16)

/-- The devices hold the reference's arguments: each a whole copy, of the experts each its four. -/
def Holds : Prop := ∀ c : Dev nD,
  m ((c : Thread nD τ).loc main_arg0) = x ∧ m ((c : Thread nD τ).loc main_arg1) = r ∧ m ((c : Thread nD τ).loc main_arg2) = ix
    ∧ m ((c : Thread nD τ).loc main_arg3) = Layout.block ⟨3, ![4, 512, 1024]⟩ ⟨3, ![64, 512, 1024]⟩ 0 16 c w
    ∧ m ((c : Thread nD τ).loc main_arg4) = sh

variable {m x r ix w sh}

/-- One device's own contribution. -/
theorem own_apply (H : Holds m x r ix w sh) (c : Dev nD) (n : Fin 2048) (h : Fin 1024) (e : Fin 64)
    (he : ix (ix2 n (0 : Fin 1)) = BitVec.ofNat 32 e.val) :
    own m c (ix2 n h) = ∑ j : Fin 4, if e = expertNo c j
      then ∑ d : Fin 512, (x (ix2 n d) * val_main_v11 x r (ix2 n e) * w (ix3 (expertNo c j) d h) : EReal) else 0 := by
  obtain ⟨h0, h1, h2, h3, -⟩ := H c
  unfold own
  rw [stgX_eq, stgRt_eq, stgIx_eq, h0, h1, h2]
  refine (ownPart_apply c x r ix (expert m c) n h e he).trans (Finset.sum_congr rfl fun j _ => ?_)
  unfold partOf
  refine congrArg (fun z : EReal => if e = expertNo c j then z else 0) (Finset.sum_congr rfl fun d _ => ?_)
  rw [expert_apply, stgW_eq, h3, stack_apply]

/-- The devices' contributions add up to the token's expert's product, weighted. -/
theorem total_apply (H : Holds m x r ix w sh) (n : Fin 2048) (h : Fin 1024) (e : Fin 64)
    (he : ix (ix2 n (0 : Fin 1)) = BitVec.ofNat 32 e.val) (M : ℝ) (hM : val_main_v3 x r (ix1 n) = (M : EReal)) :
    total m n h = (val_main_v11 x r (ix2 n e) : EReal) * ∑ d : Fin 512, (x (ix2 n d) * w (ix3 e d h) : EReal) := by
  unfold total
  rw [Finset.sum_congr rfl fun c _ => own_apply H c n h e he,
    sum_experts e fun f => ∑ d : Fin 512, (x (ix2 n d) * val_main_v11 x r (ix2 n e) * w (ix3 f d h) : EReal)]
  obtain ⟨q, hq, hw⟩ := weight_coe x r n e M hM
  rw [hw]
  exact weight_out Finset.univ (fun d => x (ix2 n d)) (fun d => w (ix3 e d h)) q hq

/-- The last step adds the shared expert. -/
theorem last_apply (a : Vec Ideal S2048x1024 .f32) (n : Fin 2048) (h : Fin 1024) :
    k0_pay1 (k0_pay2 x) a sh (ix2 n h) = (a (ix2 n h) : EReal) + ∑ d : Fin 512, (x (ix2 n d) * sh (ix2 d h) : EReal) := by
  unfold k0_pay1 k0_pay2
  dsimp only
  rw [shapeCast_self, shapeCast_self, shapeCast_self, ← product_apply]
  rfl

/-- Each device's result is the reference's. -/
theorem outAt_eq (H : Holds m x r ix w sh)
    (hr : ∀ n : Fin 2048, (∃ e : Fin 64, ix (ix2 n (0 : Fin 1)) = BitVec.ofNat 32 e.val) ∧ ∃ M : ℝ, val_main_v3 x r (ix1 n) = (M : EReal))
    (c : Dev nD) : outAt m c = val_main_v27 x r ix w sh := by
  funext i
  obtain ⟨n, h, rfl⟩ : ∃ (n : Fin 2048) (h : Fin 1024), i = ix2 n h := ⟨i 0, i 1, eq_ix2 i⟩
  obtain ⟨⟨e, he⟩, M, hM⟩ := hr n
  obtain ⟨h0, -, -, -, h4⟩ := H c
  unfold outAt
  rw [stgX_eq, stgSh_eq, h0, h4, last_apply, accAt_total, total_apply H n h e he M hM, Cert.ReferenceIdeal.Hand.result_apply x r ix w sh n h e he,
    add_comm]

end Cert.KernelIdeal.Hand

end
-- ==== Proof.Routed.lean ====
/- What the precondition says of one device's arguments: every token's expert number is one of the sixty-four, and its
   largest score is a number. -/
module

public import proofs.«01_k».proof.Pre_routed_to_an_expert_KernelIdeal
public import proofs.«01_k».proof.Proof.Gen.ReferenceIdeal
public import proofs.«01_k».proof.Proof.Gen.ReferenceIdeal.Read
public import Idealize.ShloMosaic.Lib.ValueIdx

@[expose] public section

noncomputable section

namespace Cert.KernelIdeal.Hand

open Idealize.ShloMosaic
open Idealize.ShloMosaic.ValueIdx
open Cert.ReferenceIdeal.Read

/-- A word between zero and sixty-four, read with its sign, is an expert's number. -/
theorem expert_of_word (b : BitVec 32) (h0 : (0#32).sle b = true) (h1 : b.slt 64#32 = true) :
    ∃ e : Fin 64, b = BitVec.ofNat 32 e.val := by
  rw [BitVec.sle_eq_decide, decide_eq_true_eq] at h0
  rw [BitVec.slt_eq_decide, decide_eq_true_eq] at h1
  have h3 : (0#32 : BitVec 32).toInt = 0 := by decide
  have h4 : (64#32 : BitVec 32).toInt = 64 := by decide
  rw [h3] at h0
  rw [h4] at h1
  have h2 : b.toNat < 64 := by
    rw [BitVec.toInt_eq_toNat_cond] at h0 h1
    have := b.isLt
    split at h0 <;> omega
  exact ⟨⟨b.toNat, h2⟩, BitVec.eq_of_toNat_eq (by rw [BitVec.toNat_ofNat, Nat.mod_eq_of_lt (by show b.toNat < 2 ^ 32; omega)])⟩

/-- An extended real whose size is below the top is a number. -/
theorem number_of_size (a : EReal) (h : max a (-a) < ⊤) : ∃ M : ℝ, a = (M : EReal) := by
  induction a with
  | bot => exact absurd h (by simp)
  | top => exact absurd h (by simp)
  | coe a => exact ⟨a, rfl⟩

theorem both_one (a b : BitVec 1) (h : a &&& b = 1#1) : a = 1#1 ∧ b = 1#1 := by revert a b; decide

theorem of_bit (p : Bool) (h : BitVec.ofBool p = 1#1) : p = true := by revert p; decide

variable [Cert.Pre_routed_to_an_expert_KernelIdeal.Facts]

/-- The precondition's bit for a token: three comparisons. -/
theorem bit_apply (ix : IVec Cert.ReferenceIdeal.S2048x1 32) (y : FVec Ideal Cert.ReferenceIdeal.S2048x1 .f32) (i : Cert.ReferenceIdeal.S2048x1.Idx)
    (hz : Cert.ReferenceIdeal.S_.BroadcastsInDim Cert.ReferenceIdeal.S2048x1 (![] : Fin 0 → Fin Cert.ReferenceIdeal.S2048x1.rank)) :
    andi (andi (cmpi .sge ix (broadcastInDim Cert.ReferenceIdeal.S2048x1 ![] hz (constantI Cert.ReferenceIdeal.S_ 32 0#32)))
        (cmpi .slt ix (broadcastInDim Cert.ReferenceIdeal.S2048x1 ![] hz (constantI Cert.ReferenceIdeal.S_ 32 64#32))))
      (cmpf .olt (Host.absf y) (broadcastInDim Cert.ReferenceIdeal.S2048x1 ![] hz (constant (F := Ideal) Cert.ReferenceIdeal.S_ .f32 0x7F800000#32))) i
      = (BitVec.ofBool ((0#32).sle (ix i)) &&& BitVec.ofBool ((ix i).slt 64#32))
        &&& BitVec.ofBool (decide (max (y i : EReal) (-(y i : EReal)) < Ideal.ofBits .f32 0x7F800000#32)) := rfl

theorem routed (x : FVec Ideal Cert.ReferenceIdeal.S2048x512 .bf16) (r : FVec Ideal Cert.ReferenceIdeal.S512x64 .bf16)
    (ix : IVec Cert.ReferenceIdeal.S2048x1 32) (w : FVec Ideal Cert.Pre_routed_to_an_expert_KernelIdeal.S4x512x1024 .bf16)
    (sh : FVec Ideal Cert.ReferenceIdeal.S512x1024 .bf16)
    (hf : Cert.Pre_routed_to_an_expert_KernelIdeal.fn (F := Ideal) x r ix w sh = fun _ => 1#1) (n : Fin 2048) :
    (∃ e : Fin 64, ix (ix2 n (0 : Fin 1)) = BitVec.ofNat 32 e.val) ∧ ∃ M : ℝ, val_main_v3 (F := Ideal) x r (ix1 n) = (M : EReal) := by
  have hs : broadcastInDim Cert.ReferenceIdeal.S2048x1 ![0] Cert.ReferenceIdeal.Gen.bcast_S2048_S2048x1_0 (val_main_v3 (F := Ideal) x r)
      (ix2 n (0 : Fin 1)) = val_main_v3 (F := Ideal) x r (ix1 n) :=
    (val_main_v4_apply (F := Ideal) x r (ix2 n (0 : Fin 1))).trans
      (congrArg (val_main_v3 (F := Ideal) x r) (funext fun a => Fin.ext (by match a with | ⟨0, _⟩ => rfl)))
  have ht : Ideal.ofBits .f32 0x7F800000#32 = ⊤ := by simp [Ideal.ofBits, Ideal.ieee]
  generalize hy : broadcastInDim Cert.ReferenceIdeal.S2048x1 ![0] Cert.ReferenceIdeal.Gen.bcast_S2048_S2048x1_0 (val_main_v3 (F := Ideal) x r) = y at hs
  have hfn : Cert.Pre_routed_to_an_expert_KernelIdeal.fn (F := Ideal) x r ix w sh
      = andi (andi (cmpi .sge ix (broadcastInDim Cert.ReferenceIdeal.S2048x1 ![] Cert.Pre_routed_to_an_expert_KernelIdeal.Facts.bcast_S_S2048x1 (constantI Cert.ReferenceIdeal.S_ 32 0#32)))
        (cmpi .slt ix (broadcastInDim Cert.ReferenceIdeal.S2048x1 ![] Cert.Pre_routed_to_an_expert_KernelIdeal.Facts.bcast_S_S2048x1 (constantI Cert.ReferenceIdeal.S_ 32 64#32))))
      (cmpf .olt (Host.absf y) (broadcastInDim Cert.ReferenceIdeal.S2048x1 ![] Cert.Pre_routed_to_an_expert_KernelIdeal.Facts.bcast_S_S2048x1 (constant (F := Ideal) Cert.ReferenceIdeal.S_ .f32 0x7F800000#32))) := by
    rw [← hy]; rfl
  have h := (bit_apply ix y (ix2 n (0 : Fin 1)) Cert.Pre_routed_to_an_expert_KernelIdeal.Facts.bcast_S_S2048x1).symm.trans
    (congrFun (hfn.symm.trans hf) (ix2 n (0 : Fin 1)))
  obtain ⟨hi, hm⟩ := both_one _ _ h
  obtain ⟨h0, h1⟩ := both_one _ _ hi
  refine ⟨expert_of_word _ (of_bit _ h0) (of_bit _ h1), ?_⟩
  have h2 := of_decide_eq_true (of_bit _ hm)
  refine number_of_size _ ?_
  rw [← hs, ← ht]
  exact h2

end Cert.KernelIdeal.Hand

end
-- ==== Proof.lean ====
/- The proof of the certificate's claims: the run of the kernel gives its frames and, with what its result holds, the equation
   with the reference. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Value
public import proofs.«01_k».proof.Proof.Routed
public import Idealize.ShloMosaic.Lib.Pipeline.Regions
public import Idealize.ShloMosaic.Adequacy
public import Idealize.ShloMosaic.Init

@[expose] public section

noncomputable section

namespace Cert.Proof

open Idealize.ShloMosaic Idealize.SL.Sem Cert.KernelIdeal Cert.KernelIdeal.Gen Cert.KernelIdeal.Hand

/-- An argument's array ends as it began. -/
theorem arg_kept {F : FTy → Type} [FloatOps F] (m : (ℓ : Loc nD τ sig) → Buf (Elt F) ℓ) (ρ : Dev nD → PrngReg) (c : Dev nD) (w : Fin cfg0.W)
    (h : (cfg0.win w).isOut = false) : finalA m ρ c w = m ((cfg0.win w).arr.view.loc (c.tc : Thread nD τ)) :=
  (dats (F := F) m ρ 0 c).arrAt_in w h _

/-- The frame over any float values: the run with its values dropped. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run Cert.KernelIdeal.defs _ _).mono (fun _ h => ⟨fun c => ⟨(h.1 c 0).trans (arg_kept m ρ c 0 rfl), (h.1 c 1).trans (arg_kept m ρ c 1 rfl),
    (h.1 c 2).trans (arg_kept m ρ c 2 rfl), (h.1 c 3).trans (arg_kept m ρ c 3 rfl), (h.1 c 4).trans (arg_kept m ρ c 4 rfl)⟩, h.2⟩)
    (run_main (F := F) m ρ)

/-- The idealized kernel's frame, -/
theorem frame_kernelIdeal : Cert.quiescent_KernelIdeal := fun m ρ _ => frame_any (F := Ideal) m ρ

/-- The kernel's body table is the idealized kernel's: the two texts are the same. -/
theorem defs_eq : Cert.Kernel.defs (F := Bits) = Cert.KernelIdeal.defs (F := Bits) := by chain_rfl

/-- and the kernel's: the same run over float words. -/
theorem frame_kernel : Cert.quiescent_Kernel := fun m ρ _ => by
  rw [defs_eq]
  exact frame_any (F := Bits) m ρ

/-- The reference's frame. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The shapes in the precondition fit. -/
theorem preFacts : Cert.Pre_routed_to_an_expert_KernelIdeal.Facts where
  bitsLt_bf16_f32 := Cert.ReferenceIdeal.Gen.bitsLt_bf16_f32
  reducesTo_S2048x64_S2048_d1 := Cert.ReferenceIdeal.Gen.reducesTo_S2048x64_S2048_d1
  h_S_ := Cert.ReferenceIdeal.Gen.h_S_
  bcast_S2048_S2048x1_0 := Cert.ReferenceIdeal.Gen.bcast_S2048_S2048x1_0
  bcast_S_S2048x1 := Cert.ReferenceIdeal.Gen.bcast_S_S2048x1
  dot_S2048x512_S512x64_S2048x64_1_0_0_1_n_n_wf := Cert.ReferenceIdeal.Gen.dot_S2048x512_S512x64_S2048x64_1_0_0_1_n_n_wf

theorem preFactsWhole : Cert.Pre_routed_to_an_expert_ReferenceIdeal.Facts where
  bitsLt_bf16_f32 := Cert.ReferenceIdeal.Gen.bitsLt_bf16_f32
  reducesTo_S2048x64_S2048_d1 := Cert.ReferenceIdeal.Gen.reducesTo_S2048x64_S2048_d1
  h_S_ := Cert.ReferenceIdeal.Gen.h_S_
  bcast_S2048_S2048x1_0 := Cert.ReferenceIdeal.Gen.bcast_S2048_S2048x1_0
  bcast_S_S2048x1 := Cert.ReferenceIdeal.Gen.bcast_S_S2048x1
  dot_S2048x512_S512x64_S2048x64_1_0_0_1_n_n_wf := Cert.ReferenceIdeal.Gen.dot_S2048x512_S512x64_S2048x64_1_0_0_1_n_n_wf

/-- Under the precondition every device ends with the reference's result. -/
theorem equation : Cert.algebraic_KernelIdeal_ReferenceIdeal_pre_routed_to_an_expert_KernelIdeal
    (hPre_routed_to_an_expert_KernelIdeal := preFacts) := by
  intro m g m' g' hpre hargs
  have hr : ∀ n : Fin 2048, _ := fun n => letI := preFacts; routed _ _ _ _ _ (hpre 0) n
  obtain ⟨h0, h1, h2, -, -⟩ := hargs 0
  rw [h0, h1, h2] at hr
  refine ⟨Cert.ReferenceIdeal.Read.val_main_v27 _ _ _ _ _, (θ_run Cert.KernelIdeal.defs _ _).mono (fun r h c => ⟨?_,
    (h.1 c 0).trans (arg_kept m g c 0 rfl), (h.1 c 1).trans (arg_kept m g c 1 rfl), (h.1 c 2).trans (arg_kept m g c 2 rfl),
    (h.1 c 3).trans (arg_kept m g c 3 rfl), (h.1 c 4).trans (arg_kept m g c 4 rfl)⟩) (run_main (F := Ideal) m g),
    (θ_run Cert.ReferenceIdeal.defs _ _).mono (fun r h => ⟨(h 0).1.trans (Cert.ReferenceIdeal.Read.val_main_v27_eq _ _ _ _ _), (h 0).2⟩)
      (Cert.ReferenceIdeal.Value.run (F := Ideal) m' g')⟩
  exact ((h.1 c 5).trans (finalA_out m g c)).trans (outAt_eq hargs hr c)

theorem claim : Cert.Claim := ⟨Cert.Kernel.Gen.facts, Cert.KernelIdeal.Gen.facts, Cert.ReferenceIdeal.Gen.facts, preFacts, preFactsWhole,
  frame_kernel, frame_kernelIdeal, fun m ρ _ => frame_kernelIdeal m ρ trivial, frame_reference, fun m ρ _ => frame_reference m ρ trivial,
  trivial, equation⟩

end Cert.Proof

end
